-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_sqrt_dh" .f32 0x3E3504F3#32 (((Real.sqrt 32)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v12_0)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x256 : Shape := ⟨2, ![1024, 256]⟩
abbrev S1024x201x256 : Shape := ⟨3, ![1024, 201, 256]⟩
abbrev S_ : Shape := ⟨0, ![]⟩
abbrev S768x256 : Shape := ⟨2, ![768, 256]⟩
abbrev S768 : Shape := ⟨1, ![768]⟩
abbrev S256x256 : Shape := ⟨2, ![256, 256]⟩
abbrev S256 : Shape := ⟨1, ![256]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S1024x201x256 : S_.BroadcastsInDim S1024x201x256 (![] : Fin 0 → Fin S1024x201x256.rank)
  reducesTo_S1024x201x256_S_d0_1_2 : S1024x201x256.ReducesTo [0, 1, 2] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg6 : FVec F S256x256 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S1024x256 .f32) (main_arg1 : FVec F S1024x201x256 .f32) (main_arg2 : FVec F S_ .f32) (main_arg3 : FVec F S_ .f32) (main_arg4 : FVec F S768x256 .f32) (main_arg5 : FVec F S768 .f32) (main_arg6 : FVec F S256x256 .f32) (main_arg7 : FVec F S256 .f32) (main_arg8 : FVec F S1024x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S1024x201x256 .f32 := Host.absf main_arg1
  let main_cst_0 : FVec F S_ .f32 := constant S_ .f32 0x7F800000#32
  let main_v5 : FVec F S1024x201x256 .f32 := broadcastInDim S1024x201x256 ![] bcast_S_S1024x201x256 main_cst_0
  let main_v6 : IVec S1024x201x256 1 := cmpf .olt main_v4 main_v5
  let main_c_1 : IVec S_ 1 := constantI S_ 1 1#1
  let main_v7 : IVec S_ 1 := (fun x v => Host.reduce IntOp.andi x v reducesTo_S1024x201x256_S_d0_1_2 h_S_) main_v6 main_c_1
  let main_v8 : IVec S_ 1 := andi main_v3 main_v7
  let main_v9 : FVec F S768x256 .f32 := Host.absf main_arg4
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S768 .f32 := Host.absf main_arg5
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg6 main_v13 main_v16
-- ==== Kernel.lean ====
abbrev S1024x256 : Shape := ⟨2, ![1024, 256]⟩
abbrev S1024x201x256 : Shape := ⟨3, ![1024, 201, 256]⟩
abbrev S_ : Shape := ⟨0, ![]⟩
abbrev S768x256 : Shape := ⟨2, ![768, 256]⟩
abbrev S768 : Shape := ⟨1, ![768]⟩
abbrev S256x256 : Shape := ⟨2, ![256, 256]⟩
abbrev S256 : Shape := ⟨1, ![256]⟩
abbrev S1x256 : Shape := ⟨2, ![1, 256]⟩
abbrev S1024x201 : Shape := ⟨2, ![1024, 201]⟩
abbrev S32x256 : Shape := ⟨2, ![32, 256]⟩
abbrev S32x201x256 : Shape := ⟨3, ![32, 201, 256]⟩
abbrev S32x201 : Shape := ⟨2, ![32, 201]⟩
abbrev S32 : Shape := ⟨1, ![32]⟩
abbrev S32x1 : Shape := ⟨2, ![32, 1]⟩
abbrev S8x256 : Shape := ⟨2, ![8, 256]⟩
abbrev S32x1x256 : Shape := ⟨3, ![32, 1, 256]⟩
abbrev S1x8x256 : Shape := ⟨3, ![1, 8, 256]⟩
abbrev S32x8x256 : Shape := ⟨3, ![32, 8, 256]⟩
abbrev S1x1x256 : Shape := ⟨3, ![1, 1, 256]⟩
abbrev S1x201x256 : Shape := ⟨3, ![1, 201, 256]⟩
abbrev S201x256 : Shape := ⟨2, ![201, 256]⟩
abbrev S1x201 : Shape := ⟨2, ![1, 201]⟩
abbrev S8x201 : Shape := ⟨2, ![8, 201]⟩
abbrev S1x8x201 : Shape := ⟨3, ![1, 8, 201]⟩
abbrev S32x8x201 : Shape := ⟨3, ![32, 8, 201]⟩
abbrev S32x8 : Shape := ⟨2, ![32, 8]⟩
abbrev S32x8x1 : Shape := ⟨3, ![32, 8, 1]⟩
abbrev S1024x3 : Shape := ⟨2, ![1024, 3]⟩
abbrev S32x3 : Shape := ⟨2, ![32, 3]⟩
abbrev S32x201x1 : Shape := ⟨3, ![32, 201, 1]⟩
abbrev S32x1x201 : Shape := ⟨3, ![32, 1, 201]⟩
abbrev S32x201x201 : Shape := ⟨3, ![32, 201, 201]⟩
abbrev S1 : Shape := ⟨1, ![1]⟩
abbrev S2 : Shape := ⟨1, ![2]⟩
abbrev S1x2 : Shape := ⟨2, ![1, 2]⟩
abbrev S1x1 : Shape := ⟨2, ![1, 1]⟩
abbrev S1024 : Shape := ⟨1, ![1024]⟩
abbrev S1024x1 : Shape := ⟨2, ![1024, 1]⟩
abbrev S1024x1024 : Shape := ⟨2, ![1024, 1024]⟩
abbrev S1x1024 : Shape := ⟨2, ![1, 1024]⟩
abbrev S1x1024x1 : Shape := ⟨3, ![1, 1024, 1]⟩
abbrev S1x1x1 : Shape := ⟨3, ![1, 1, 1]⟩

abbrev nBuf : Space → Nat
  | .hbm => 32
  | .vmem => 22
  | .smem => 0
  | _ => 0

abbrev bufTy : (tb : Table) → Fin (tcTables nBuf tb) → BufTy
  | .hbm, ⟨0, _⟩ => ⟨S1024x256, .f32⟩
  | .hbm, ⟨1, _⟩ => ⟨S1024x201x256, .f32⟩
  | .hbm, ⟨2, _⟩ => ⟨S_, .f32⟩
  | .hbm, ⟨3, _⟩ => ⟨S_, .f32⟩
  | .hbm, ⟨4, _⟩ => ⟨S768x256, .f32⟩
  | .hbm, ⟨5, _⟩ => ⟨S768, .f32⟩
  | .hbm, ⟨6, _⟩ => ⟨S256x256, .f32⟩
  | .hbm, ⟨7, _⟩ => ⟨S256, .f32⟩
  | .hbm, ⟨8, _⟩ => ⟨S1024x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256, .f32⟩
  | .hbm, ⟨16, _⟩ => ⟨S1x256, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S1x256, .f32⟩
  | .hbm, ⟨21, _⟩ => ⟨S1024x256, .f32⟩
  | .hbm, ⟨22, _⟩ => ⟨S1024x201, .f32⟩
  | .hbm, ⟨23, _⟩ => ⟨S1024x3, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S2, .f32⟩
  | .hbm, ⟨29, _⟩ => ⟨S1x2, .f32⟩
  | .hbm, ⟨30, _⟩ => ⟨S1x1, .f32⟩
  | .hbm, ⟨31, _⟩ => ⟨S_, .f32⟩
  | .local _ .vmem, ⟨0, _⟩ => ⟨S32x256, .f32⟩
  | .local _ .vmem, ⟨1, _⟩ => ⟨S32x256, .f32⟩
  | .local _ .vmem, ⟨2, _⟩ => ⟨S32x201x256, .f32⟩
  | .local _ .vmem, ⟨3, _⟩ => ⟨S32x201x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S1x256, .f32⟩
  | .local _ .vmem, ⟨9, _⟩ => ⟨S1x256, .f32⟩
  | .local _ .vmem, ⟨10, _⟩ => ⟨S32x256, .f32⟩
  | .local _ .vmem, ⟨11, _⟩ => ⟨S32x256, .f32⟩
  | .local _ .vmem, ⟨12, _⟩ => ⟨S32x201, .f32⟩
  | .local _ .vmem, ⟨13, _⟩ => ⟨S32x201, .f32⟩
  | .local _ .vmem, ⟨14, _⟩ => ⟨S32x201, .f32⟩
  | .local _ .vmem, ⟨15, _⟩ => ⟨S32x201, .f32⟩
  | .local _ .vmem, ⟨16, _⟩ => ⟨S32x3, .f32⟩
  | .local _ .vmem, ⟨17, _⟩ => ⟨S32x3, .f32⟩
  | .local _ .vmem, ⟨18, _⟩ => ⟨S1024x256, .f32⟩
  | .local _ .vmem, ⟨19, _⟩ => ⟨S1024x256, .f32⟩
  | .local _ .vmem, ⟨20, _⟩ => ⟨S1x2, .f32⟩
  | .local _ .vmem, ⟨21, _⟩ => ⟨S1x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x201x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x201 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x201 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := .none

abbrev stage2_0 : Fin 1 → Memref sig .tc .vmem S1024x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
-- ==== KernelIdeal.lean ====
variable {F : FTy → Type} [FloatOps F] [Named F]
def κ : String → Option EReal := fun
  | "inv_sqrt_dh" => some (((Real.sqrt 32)⁻¹ : ℝ) : EReal)
  | _ => none
-- ==== ReferenceIdeal.lean ====
abbrev S1024x256 : Shape := ⟨2, ![1024, 256]⟩
abbrev S1024x201x256 : Shape := ⟨3, ![1024, 201, 256]⟩
abbrev S_ : Shape := ⟨0, ![]⟩
abbrev S768x256 : Shape := ⟨2, ![768, 256]⟩
abbrev S768 : Shape := ⟨1, ![768]⟩
abbrev S256x256 : Shape := ⟨2, ![256, 256]⟩
abbrev S256 : Shape := ⟨1, ![256]⟩
abbrev S1024x1x256 : Shape := ⟨3, ![1024, 1, 256]⟩
abbrev S1024x201 : Shape := ⟨2, ![1024, 201]⟩
abbrev S1024x1 : Shape := ⟨2, ![1024, 1]⟩
abbrev S1024x67 : Shape := ⟨2, ![1024, 67]⟩
abbrev S1024 : Shape := ⟨1, ![1024]⟩
abbrev S1024x3 : Shape := ⟨2, ![1024, 3]⟩
abbrev S1x1x256 : Shape := ⟨3, ![1, 1, 256]⟩
abbrev S1024x1x8x32 : Shape := ⟨4, ![1024, 1, 8, 32]⟩
abbrev S1024x8x1x32 : Shape := ⟨4, ![1024, 8, 1, 32]⟩
abbrev S1024x201x8x32 : Shape := ⟨4, ![1024, 201, 8, 32]⟩
abbrev S1024x8x201x32 : Shape := ⟨4, ![1024, 8, 201, 32]⟩
abbrev S1024x8x32x201 : Shape := ⟨4, ![1024, 8, 32, 201]⟩
abbrev S1024x8x1x201 : Shape := ⟨4, ![1024, 8, 1, 201]⟩
abbrev S1024x8x1 : Shape := ⟨3, ![1024, 8, 1]⟩
abbrev S1024x8x1x1 : Shape := ⟨4, ![1024, 8, 1, 1]⟩
abbrev S1x256 : Shape := ⟨2, ![1, 256]⟩
abbrev S1023x256 : Shape := ⟨2, ![1023, 256]⟩
abbrev S2048x256 : Shape := ⟨2, ![2048, 256]⟩
abbrev S1x2048x256 : Shape := ⟨3, ![1, 2048, 256]⟩
abbrev S1024x2048x256 : Shape := ⟨3, ![1024, 2048, 256]⟩
abbrev S1024x2048 : Shape := ⟨2, ![1024, 2048]⟩
abbrev S1x2048 : Shape := ⟨2, ![1, 2048]⟩
abbrev S1024x5 : Shape := ⟨2, ![1024, 5]⟩

abbrev nBuf : Space → Nat
  | .hbm => 256
  | .vmem => 0
  | .smem => 0
  | _ => 0

abbrev hbmTy0_0 (i : Nat) : BufTy := match i % 128 with
  | 0 => ⟨S1024x256, .f32⟩
  | 1 => ⟨S1024x201x256, .f32⟩
  | 2 => ⟨S_, .f32⟩
  | 3 => ⟨S_, .f32⟩
  | 4 => ⟨S768x256, .f32⟩
  | 5 => ⟨S768, .f32⟩
  | 6 => ⟨S256x256, .f32⟩
  | 7 => ⟨S256, .f32⟩
  | 8 => ⟨S1024x256, .f32⟩
  | 9 => ⟨S1024x1x256, .f32⟩
  | 10 => ⟨S1024x201x256, .f32⟩
  | 11 => ⟨S1024x201x256, .f32⟩
  | 12 => ⟨S_, .f32⟩
  | 13 => ⟨S1024x201, .f32⟩
  | 14 => ⟨S1024x1x256, .f32⟩
  | 15 => ⟨S_, .f32⟩
  | 16 => ⟨S1024x1, .f32⟩
  | 17 => ⟨S1024x1, .f32⟩
  | 18 => ⟨S1024x201x256, .f32⟩
  | 19 => ⟨S_, .f32⟩
  | 20 => ⟨S1024x201, .f32⟩
  | 21 => ⟨S1024x201, .f32⟩
  | 22 => ⟨S1024x201, .f32⟩
  | 23 => ⟨S1024x201, .f32⟩
  | 24 => ⟨S_, .f32⟩
  | 25 => ⟨S1024x201, .f32⟩
  | 26 => ⟨S1024x201, .f32⟩
  | 27 => ⟨S1024x201, .f32⟩
  | 28 => ⟨S1024x201, .f32⟩
  | 29 => ⟨S1024x67, .f32⟩
  | 30 => ⟨S1024x67, .f32⟩
  | 31 => ⟨S1024x67, .f32⟩
  | 32 => ⟨S_, .f32⟩
  | 33 => ⟨S1024, .f32⟩
  | 34 => ⟨S_, .f32⟩
  | 35 => ⟨S1024, .f32⟩
  | 36 => ⟨S1024, .f32⟩
  | 37 => ⟨S_, .f32⟩
  | 38 => ⟨S1024, .f32⟩
  | 39 => ⟨S_, .f32⟩
  | 40 => ⟨S1024, .f32⟩
  | 41 => ⟨S1024, .f32⟩
  | 42 => ⟨S_, .f32⟩
  | 43 => ⟨S1024, .f32⟩
  | 44 => ⟨S_, .f32⟩
  | 45 => ⟨S1024, .f32⟩
  | 46 => ⟨S1024, .f32⟩
  | 47 => ⟨S1024x1, .f32⟩
  | 48 => ⟨S1024x1, .f32⟩
  | 49 => ⟨S1024x1, .f32⟩
  | 50 => ⟨S1024x3, .f32⟩
  | 51 => ⟨S_, .i32⟩
  | 52 => ⟨S_, .f32⟩
  | 53 => ⟨S1024, .f32⟩
  | 54 => ⟨S1024x1, .f32⟩
  | 55 => ⟨S_, .f32⟩
  | 56 => ⟨S1024x1, .f32⟩
  | 57 => ⟨S1024x1, .f32⟩
  | 58 => ⟨S1024x67, .f32⟩
  | 59 => ⟨S1024x67, .f32⟩
  | 60 => ⟨S1024x67, .f32⟩
  | 61 => ⟨S_, .f32⟩
  | 62 => ⟨S_, .f32⟩
  | 63 => ⟨S_, .f32⟩
  | 64 => ⟨S_, .f32⟩
  | 65 => ⟨S1024, .f32⟩
  | 66 => ⟨S1024, .f32⟩
  | 67 => ⟨S1024, .f32⟩
  | 68 => ⟨S_, .f32⟩
  | 69 => ⟨S_, .i1⟩
  | 70 => ⟨S_, .f32⟩
  | 71 => ⟨S_, .f32⟩
  | 72 => ⟨S1024, .f32⟩
  | 73 => ⟨S1024, .f32⟩
  | 74 => ⟨S1024, .f32⟩
  | 75 => ⟨S_, .i32⟩
  | 76 => ⟨S_, .f32⟩
  | 77 => ⟨S1024, .f32⟩
  | 78 => ⟨S1024x1, .f32⟩
  | 79 => ⟨S_, .f32⟩
  | 80 => ⟨S1024x1, .f32⟩
  | 81 => ⟨S1024x1, .f32⟩
  | 82 => ⟨S1024x67, .f32⟩
  | 83 => ⟨S1024x67, .f32⟩
  | 84 => ⟨S1024x67, .f32⟩
  | 85 => ⟨S_, .f32⟩
  | 86 => ⟨S_, .f32⟩
  | 87 => ⟨S_, .f32⟩
  | 88 => ⟨S_, .f32⟩
  | 89 => ⟨S1024, .f32⟩
  | 90 => ⟨S1024, .f32⟩
  | 91 => ⟨S1024, .f32⟩
  | 92 => ⟨S_, .f32⟩
  | 93 => ⟨S_, .i1⟩
  | 94 => ⟨S_, .f32⟩
  | 95 => ⟨S_, .f32⟩
  | 96 => ⟨S1024, .f32⟩
  | 97 => ⟨S1024, .f32⟩
  | 98 => ⟨S1024, .f32⟩
  | 99 => ⟨S_, .i32⟩
  | 100 => ⟨S_, .f32⟩
  | 101 => ⟨S1024, .f32⟩
  | 102 => ⟨S1024x1, .f32⟩
  | 103 => ⟨S_, .f32⟩
  | 104 => ⟨S1024x1, .f32⟩
  | 105 => ⟨S1024x1, .f32⟩
  | 106 => ⟨S1024x67, .f32⟩
  | 107 => ⟨S1024x67, .f32⟩
  | 108 => ⟨S1024x67, .f32⟩
  | 109 => ⟨S_, .f32⟩
  | 110 => ⟨S_, .f32⟩
  | 111 => ⟨S_, .f32⟩
  | 112 => ⟨S_, .f32⟩
  | 113 => ⟨S1024, .f32⟩
  | 114 => ⟨S1024, .f32⟩
  | 115 => ⟨S1024, .f32⟩
  | 116 => ⟨S_, .f32⟩
  | 117 => ⟨S_, .i1⟩
  | 118 => ⟨S_, .f32⟩
  | 119 => ⟨S_, .f32⟩
  | 120 => ⟨S1024, .f32⟩
  | 121 => ⟨S1024, .f32⟩
  | 122 => ⟨S1024, .f32⟩
  | 123 => ⟨S1024x1, .f32⟩
  | 124 => ⟨S1024x1, .f32⟩
  | 125 => ⟨S1024x1, .f32⟩
  | 126 => ⟨S1024x3, .f32⟩
  | 127 => ⟨S_, .f32⟩
  | _ => ⟨S1024x256, .f32⟩

abbrev hbmTy0_1 (i : Nat) : BufTy := match i % 128 with
  | 0 => ⟨S1024x3, .f32⟩
  | 1 => ⟨S1024x3, .f32⟩
  | 2 => ⟨S1024x3, .f32⟩
  | 3 => ⟨S1024x1x256, .f32⟩
  | 4 => ⟨S256x256, .f32⟩
  | 5 => ⟨S256x256, .f32⟩
  | 6 => ⟨S256x256, .f32⟩
  | 7 => ⟨S256, .f32⟩
  | 8 => ⟨S256, .f32⟩
  | 9 => ⟨S256, .f32⟩
  | 10 => ⟨S256x256, .f32⟩
  | 11 => ⟨S1024x1x256, .f32⟩
  | 12 => ⟨S1x1x256, .f32⟩
  | 13 => ⟨S1024x1x256, .f32⟩
  | 14 => ⟨S1024x1x256, .f32⟩
  | 15 => ⟨S256x256, .f32⟩
  | 16 => ⟨S1024x201x256, .f32⟩
  | 17 => ⟨S1x1x256, .f32⟩
  | 18 => ⟨S1024x201x256, .f32⟩
  | 19 => ⟨S1024x201x256, .f32⟩
  | 20 => ⟨S256x256, .f32⟩
  | 21 => ⟨S1024x201x256, .f32⟩
  | 22 => ⟨S1x1x256, .f32⟩
  | 23 => ⟨S1024x201x256, .f32⟩
  | 24 => ⟨S1024x201x256, .f32⟩
  | 25 => ⟨S1024x1x8x32, .f32⟩
  | 26 => ⟨S1024x8x1x32, .f32⟩
  | 27 => ⟨S1024x201x8x32, .f32⟩
  | 28 => ⟨S1024x8x201x32, .f32⟩
  | 29 => ⟨S1024x201x8x32, .f32⟩
  | 30 => ⟨S1024x8x201x32, .f32⟩
  | 31 => ⟨S1024x8x32x201, .f32⟩
  | 32 => ⟨S1024x8x1x201, .f32⟩
  | 33 => ⟨S_, .f32⟩
  | 34 => ⟨S_, .f32⟩
  | 35 => ⟨S1024x8x1x201, .f32⟩
  | 36 => ⟨S1024x8x1x201, .f32⟩
  | 37 => ⟨S_, .f32⟩
  | 38 => ⟨S1024x8x1, .f32⟩
  | 39 => ⟨S_, .f32⟩
  | 40 => ⟨S1024x8x1, .f32⟩
  | 41 => ⟨S1024x8x1, .f32⟩
  | 42 => ⟨S1024x8x1x1, .f32⟩
  | 43 => ⟨S1024x8x1x201, .f32⟩
  | 44 => ⟨S1024x8x1x201, .f32⟩
  | 45 => ⟨S1024x8x1x201, .f32⟩
  | 46 => ⟨S_, .f32⟩
  | 47 => ⟨S1024x8x1, .f32⟩
  | 48 => ⟨S1024x8x1x1, .f32⟩
  | 49 => ⟨S1024x8x1x201, .f32⟩
  | 50 => ⟨S1024x8x1x201, .f32⟩
  | 51 => ⟨S1024x8x1x32, .f32⟩
  | 52 => ⟨S1024x1x8x32, .f32⟩
  | 53 => ⟨S1024x1x256, .f32⟩
  | 54 => ⟨S256x256, .f32⟩
  | 55 => ⟨S1024x1x256, .f32⟩
  | 56 => ⟨S1x1x256, .f32⟩
  | 57 => ⟨S1024x1x256, .f32⟩
  | 58 => ⟨S1024x1x256, .f32⟩
  | 59 => ⟨S1024x256, .f32⟩
  | 60 => ⟨S_, .f32⟩
  | 61 => ⟨S_, .f32⟩
  | 62 => ⟨S1024x256, .f32⟩
  | 63 => ⟨S_, .f32⟩
  | 64 => ⟨S1024, .f32⟩
  | 65 => ⟨S1024x256, .f32⟩
  | 66 => ⟨S_, .f32⟩
  | 67 => ⟨S1024, .f32⟩
  | 68 => ⟨S1024, .f32⟩
  | 69 => ⟨S1024x256, .f32⟩
  | 70 => ⟨S_, .f32⟩
  | 71 => ⟨S1024, .f32⟩
  | 72 => ⟨S1024, .f32⟩
  | 73 => ⟨S1024, .f32⟩
  | 74 => ⟨S_, .f32⟩
  | 75 => ⟨S1024, .f32⟩
  | 76 => ⟨S1024, .f32⟩
  | 77 => ⟨S1024, .f32⟩
  | 78 => ⟨S_, .i32⟩
  | 79 => ⟨S_, .i32⟩
  | 80 => ⟨S1024x256, .f32⟩
  | 81 => ⟨S1x256, .f32⟩
  | 82 => ⟨S1023x256, .f32⟩
  | 83 => ⟨S1024x256, .f32⟩
  | 84 => ⟨S2048x256, .f32⟩
  | 85 => ⟨S1024x1x256, .f32⟩
  | 86 => ⟨S1x2048x256, .f32⟩
  | 87 => ⟨S1024x2048x256, .f32⟩
  | 88 => ⟨S1024x2048x256, .f32⟩
  | 89 => ⟨S1024x2048x256, .f32⟩
  | 90 => ⟨S_, .f32⟩
  | 91 => ⟨S1024x2048, .f32⟩
  | 92 => ⟨S1024x1x256, .f32⟩
  | 93 => ⟨S_, .f32⟩
  | 94 => ⟨S1024x1, .f32⟩
  | 95 => ⟨S1024x1, .f32⟩
  | 96 => ⟨S1x2048x256, .f32⟩
  | 97 => ⟨S_, .f32⟩
  | 98 => ⟨S1x2048, .f32⟩
  | 99 => ⟨S1x2048, .f32⟩
  | 100 => ⟨S1024x2048, .f32⟩
  | 101 => ⟨S1024x2048, .f32⟩
  | 102 => ⟨S1024x2048, .f32⟩
  | 103 => ⟨S_, .f32⟩
  | 104 => ⟨S1024x2048, .f32⟩
  | 105 => ⟨S1024x2048, .f32⟩
  | 106 => ⟨S1024x2048, .f32⟩
  | 107 => ⟨S1024x5, .f32⟩
  | 108 => ⟨S1024x5, .i32⟩
  | 109 => ⟨S1024, .f32⟩
  | 110 => ⟨S1024, .f32⟩
  | 111 => ⟨S1024, .f32⟩
  | 112 => ⟨S1024x5, .f32⟩
  | 113 => ⟨S1024x5, .f32⟩
  | 114 => ⟨S1024x5, .f32⟩
  | 115 => ⟨S_, .f32⟩
  | 116 => ⟨S1024, .f32⟩
  | 117 => ⟨S1024, .f32⟩
  | 118 => ⟨S_, .f32⟩
  | 119 => ⟨S1024, .f32⟩
  | 120 => ⟨S1024, .f32⟩
  | 121 => ⟨S1024, .f32⟩
  | 122 => ⟨S1024, .f32⟩
  | 123 => ⟨S_, .f32⟩
  | 124 => ⟨S_, .f32⟩
  | 125 => ⟨S_, .f32⟩
  | 126 => ⟨S_, .f32⟩
  | 127 => ⟨S_, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c : Ref sig .tc := ⟨.hbm, 51, rfl⟩
abbrev main_call1_call0_cst : Ref sig .tc := ⟨.hbm, 52, rfl⟩
abbrev main_call1_call0_v0 : Ref sig .tc := ⟨.hbm, 53, rfl⟩
abbrev main_call1_call0_v1 : Ref sig .tc := ⟨.hbm, 54, rfl⟩
abbrev main_call1_call0_cst_0 : Ref sig .tc := ⟨.hbm, 55, rfl⟩
abbrev main_call1_call0_v2 : Ref sig .tc := ⟨.hbm, 56, rfl⟩
abbrev main_call1_call0_v3 : Ref sig .tc := ⟨.hbm, 57, rfl⟩
abbrev main_call1_call0_v4 : Ref sig .tc := ⟨.hbm, 58, rfl⟩
abbrev main_call1_call0_v5 : Ref sig .tc := ⟨.hbm, 59, rfl⟩
abbrev main_call1_call0_v6 : Ref sig .tc := ⟨.hbm, 60, rfl⟩
abbrev main_call1_call0_v7 : Ref sig .tc := ⟨.hbm, 61, rfl⟩
abbrev main_call1_call0_cst_1 : Ref sig .tc := ⟨.hbm, 62, rfl⟩
abbrev main_call1_call0_v8 : Ref sig .tc := ⟨.hbm, 63, rfl⟩
abbrev main_call1_call0_cst_2 : Ref sig .tc := ⟨.hbm, 64, rfl⟩
abbrev main_call1_call0_v9 : Ref sig .tc := ⟨.hbm, 65, rfl⟩
abbrev main_call1_call0_v10 : Ref sig .tc := ⟨.hbm, 66, rfl⟩
abbrev main_call1_call0_v11 : Ref sig .tc := ⟨.hbm, 67, rfl⟩
abbrev main_call1_call0_cst_3 : Ref sig .tc := ⟨.hbm, 68, rfl⟩
abbrev main_call1_call0_v12 : Ref sig .tc := ⟨.hbm, 69, rfl⟩
abbrev main_call1_call0_cst_4 : Ref sig .tc := ⟨.hbm, 70, rfl⟩
abbrev main_call1_call0_call0_v0 : Ref sig .tc := ⟨.hbm, 71, rfl⟩
abbrev main_call1_call0_call0_v1 : Ref sig .tc := ⟨.hbm, 72, rfl⟩
abbrev main_call1_v0 : Ref sig .tc := ⟨.hbm, 73, rfl⟩
abbrev main_v32 : Ref sig .tc := ⟨.hbm, 74, rfl⟩
abbrev main_c_9 : Ref sig .tc := ⟨.hbm, 75, rfl⟩
abbrev main_call2_call0_cst : Ref sig .tc := ⟨.hbm, 76, rfl⟩
abbrev main_call2_call0_v0 : Ref sig .tc := ⟨.hbm, 77, rfl⟩
abbrev main_call2_call0_v1 : Ref sig .tc := ⟨.hbm, 78, rfl⟩
abbrev main_call2_call0_cst_0 : Ref sig .tc := ⟨.hbm, 79, rfl⟩
abbrev main_call2_call0_v2 : Ref sig .tc := ⟨.hbm, 80, rfl⟩
abbrev main_call2_call0_v3 : Ref sig .tc := ⟨.hbm, 81, rfl⟩
abbrev main_call2_call0_v4 : Ref sig .tc := ⟨.hbm, 82, rfl⟩
abbrev main_call2_call0_v5 : Ref sig .tc := ⟨.hbm, 83, rfl⟩
abbrev main_call2_call0_v6 : Ref sig .tc := ⟨.hbm, 84, rfl⟩
abbrev main_call2_call0_v7 : Ref sig .tc := ⟨.hbm, 85, rfl⟩
abbrev main_call2_call0_cst_1 : Ref sig .tc := ⟨.hbm, 86, rfl⟩
abbrev main_call2_call0_v8 : Ref sig .tc := ⟨.hbm, 87, rfl⟩
abbrev main_call2_call0_cst_2 : Ref sig .tc := ⟨.hbm, 88, rfl⟩
abbrev main_call2_call0_v9 : Ref sig .tc := ⟨.hbm, 89, rfl⟩
abbrev main_call2_call0_v10 : Ref sig .tc := ⟨.hbm, 90, rfl⟩
abbrev main_call2_call0_v11 : Ref sig .tc := ⟨.hbm, 91, rfl⟩
abbrev main_call2_call0_cst_3 : Ref sig .tc := ⟨.hbm, 92, rfl⟩
abbrev main_call2_call0_v12 : Ref sig .tc := ⟨.hbm, 93, rfl⟩
abbrev main_call2_call0_cst_4 : Ref sig .tc := ⟨.hbm, 94, rfl⟩
abbrev main_call2_call0_call0_v0 : Ref sig .tc := ⟨.hbm, 95, rfl⟩
abbrev main_call2_call0_call0_v1 : Ref sig .tc := ⟨.hbm, 96, rfl⟩
abbrev main_call2_v0 : Ref sig .tc := ⟨.hbm, 97, rfl⟩
abbrev main_v33 : Ref sig .tc := ⟨.hbm, 98, rfl⟩
abbrev main_c_10 : Ref sig .tc := ⟨.hbm, 99, rfl⟩
abbrev main_call3_call0_cst : Ref sig .tc := ⟨.hbm, 100, rfl⟩
abbrev main_call3_call0_v0 : Ref sig .tc := ⟨.hbm, 101, rfl⟩
abbrev main_call3_call0_v1 : Ref sig .tc := ⟨.hbm, 102, rfl⟩
abbrev main_call3_call0_cst_0 : Ref sig .tc := ⟨.hbm, 103, rfl⟩
abbrev main_call3_call0_v2 : Ref sig .tc := ⟨.hbm, 104, rfl⟩
abbrev main_call3_call0_v3 : Ref sig .tc := ⟨.hbm, 105, rfl⟩
abbrev main_call3_call0_v4 : Ref sig .tc := ⟨.hbm, 106, rfl⟩
abbrev main_call3_call0_v5 : Ref sig .tc := ⟨.hbm, 107, rfl⟩
abbrev main_call3_call0_v6 : Ref sig .tc := ⟨.hbm, 108, rfl⟩
abbrev main_call3_call0_v7 : Ref sig .tc := ⟨.hbm, 109, rfl⟩
abbrev main_call3_call0_cst_1 : Ref sig .tc := ⟨.hbm, 110, rfl⟩
abbrev main_call3_call0_v8 : Ref sig .tc := ⟨.hbm, 111, rfl⟩
abbrev main_call3_call0_cst_2 : Ref sig .tc := ⟨.hbm, 112, rfl⟩
abbrev main_call3_call0_v9 : Ref sig .tc := ⟨.hbm, 113, rfl⟩
abbrev main_call3_call0_v10 : Ref sig .tc := ⟨.hbm, 114, rfl⟩
abbrev main_call3_call0_v11 : Ref sig .tc := ⟨.hbm, 115, rfl⟩
abbrev main_call3_call0_cst_3 : Ref sig .tc := ⟨.hbm, 116, rfl⟩
abbrev main_call3_call0_v12 : Ref sig .tc := ⟨.hbm, 117, rfl⟩
abbrev main_call3_call0_cst_4 : Ref sig .tc := ⟨.hbm, 118, rfl⟩
abbrev main_call3_call0_call0_v0 : Ref sig .tc := ⟨.hbm, 119, rfl⟩
abbrev main_call3_call0_call0_v1 : Ref sig .tc := ⟨.hbm, 120, rfl⟩
abbrev main_call3_v0 : Ref sig .tc := ⟨.hbm, 121, rfl⟩
abbrev main_v34 : Ref sig .tc := ⟨.hbm, 122, rfl⟩
abbrev main_v35 : Ref sig .tc := ⟨.hbm, 123, rfl⟩
abbrev main_v36 : Ref sig .tc := ⟨.hbm, 124, rfl⟩
abbrev main_v37 : Ref sig .tc := ⟨.hbm, 125, rfl⟩
abbrev main_v38 : Ref sig .tc := ⟨.hbm, 126, rfl⟩
abbrev main_cst_11 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_v59 : Ref sig .tc := ⟨.hbm, 148, rfl⟩
abbrev main_v60 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_cst_12 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_cst_13 : Ref sig .tc := ⟨.hbm, 165, rfl⟩
abbrev main_v75 : Ref sig .tc := ⟨.hbm, 166, rfl⟩
abbrev main_cst_14 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_cst_15 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_cst_16 : Ref sig .tc := ⟨.hbm, 191, rfl⟩
abbrev main_v98 : Ref sig .tc := ⟨.hbm, 192, rfl⟩
abbrev main_v99 : Ref sig .tc := ⟨.hbm, 193, rfl⟩
abbrev main_cst_17 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_cst_18 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_cst_19 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_c_20 : Ref sig .tc := ⟨.hbm, 206, rfl⟩
abbrev main_c_21 : Ref sig .tc := ⟨.hbm, 207, rfl⟩
abbrev main_v109 : Ref sig .tc := ⟨.hbm, 208, rfl⟩
abbrev main_call4_v0 : Ref sig .tc := ⟨.hbm, 209, rfl⟩
abbrev main_call4_v1 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_v115 : Ref sig .tc := ⟨.hbm, 216, rfl⟩
abbrev main_v116 : Ref sig .tc := ⟨.hbm, 217, rfl⟩
abbrev main_cst_22 : Ref sig .tc := ⟨.hbm, 218, rfl⟩
abbrev main_v117 : Ref sig .tc := ⟨.hbm, 219, rfl⟩
abbrev main_v118 : Ref sig .tc := ⟨.hbm, 220, rfl⟩
abbrev main_cst_23 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_cst_24 : Ref sig .tc := ⟨.hbm, 225, rfl⟩
abbrev main_v122 : Ref sig .tc := ⟨.hbm, 226, rfl⟩
abbrev main_v123 : Ref sig .tc := ⟨.hbm, 227, rfl⟩
abbrev main_v124 : Ref sig .tc := ⟨.hbm, 228, rfl⟩
abbrev main_v125 : Ref sig .tc := ⟨.hbm, 229, rfl⟩
abbrev main_v126 : Ref sig .tc := ⟨.hbm, 230, rfl⟩
abbrev main_cst_25 : Ref sig .tc := ⟨.hbm, 231, rfl⟩
abbrev main_v127 : Ref sig .tc := ⟨.hbm, 232, rfl⟩
abbrev main_v128 : Ref sig .tc := ⟨.hbm, 233, rfl⟩
abbrev main_v129 : Ref sig .tc := ⟨.hbm, 234, rfl⟩
abbrev main_values : Ref sig .tc := ⟨.hbm, 235, rfl⟩
abbrev main_indices : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_v135 : Ref sig .tc := ⟨.hbm, 242, rfl⟩
abbrev main_cst_26 : Ref sig .tc := ⟨.hbm, 243, rfl⟩
abbrev main_v136 : Ref sig .tc := ⟨.hbm, 244, rfl⟩
abbrev main_v137 : Ref sig .tc := ⟨.hbm, 245, rfl⟩
abbrev main_cst_27 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_cst_28 : Ref sig .tc := ⟨.hbm, 251, rfl⟩
abbrev main_v142 : Ref sig .tc := ⟨.hbm, 252, rfl⟩
abbrev main_cst_29 : Ref sig .tc := ⟨.hbm, 253, rfl⟩
abbrev main_v143 : Ref sig .tc := ⟨.hbm, 254, rfl⟩
abbrev main_v144 : Ref sig .tc := ⟨.hbm, 255, rfl⟩

abbrev nD : Nat := 1
abbrev τ : Topo := Topo.v7x

variable {F : FTy → Type} [FloatOps F]
-- ==== Proof.KernelRun.lean ====
/- The idealized kernel's run: every buffer the program leaves holds what the fold over its segments says. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

set_option backward.isDefEq.respectTransparency.types false in
set_option maxHeartbeats 8000000 in
/-- Every execution from the launch memory `m` ends with each buffer outside the kernels' scopes at the last
    boundary's contents. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => h)

end Cert.KernelIdeal.Gen

end
-- ==== Proof.StageA.lean ====
/- The first kernel's body (attention and similarities), its 32 unrolled samples folded into one family. -/
module

public import proofs.«01_k».proof.Proof.Gen.KernelIdeal.Frame
public import Idealize.ShloMosaic.Lib.Pointwise
public import Idealize.ShloMosaic.Lib.Pipeline.ValueKit

@[expose] public section

set_option maxRecDepth 65536

noncomputable section

namespace Cert.KernelIdeal.StageA

open Idealize.ShloMosaic Idealize.ShloMosaic.TcCoe
open Cert.KernelIdeal Cert.KernelIdeal.Gen

variable {F : FTy → Type} [FloatOps F] [Named F]

theorem slices_vis : ∀ r : Fin 32, S32x1x256.Slices ![(r : ℕ), 0, 0] S1x1x256 := by decide
theorem slices_text : ∀ r : Fin 32, S32x201x256.Slices ![(r : ℕ), 0, 0] S1x201x256 := by decide
theorem slices_seg : ∀ r : Fin 32, S32x8x256.Slices ![(r : ℕ), 0, 0] S1x8x256 := by decide
theorem slices_att : ∀ r : Fin 32, S32x8x201.Slices ![(r : ℕ), 0, 0] S1x8x201 := by decide

/-- Sample `r`'s text rows. -/
def textRow (v2 : FVec F S32x201x256 .bf16) (r : Fin 32) : FVec F S201x256 .bf16 :=
  shapeCast S201x256 (extractStridedSlice S1x201x256 ![(r : ℕ), 0, 0] v2 (slices_text r)) shapeCasts_S1x201x256_S201x256

/-- Sample `r`'s inner products with its text rows. -/
def dotRow (v50 : FVec F S32x1x256 .bf16) (v2 : FVec F S32x201x256 .bf16) (r : Fin 32) : FVec F S1x201 .f32 :=
  matmul dot_S1x256_S201x256_S1x201_1_1_0_0_n_n none
    (shapeCast S1x256 (extractStridedSlice S1x1x256 ![(r : ℕ), 0, 0] v50 (slices_vis r)) shapeCasts_S1x1x256_S1x256)
    (textRow v2 r) (constant S1x201 .f32 0x00000000#32)

/-- Sample `r`'s sums of squares, by a row of ones. -/
def sqRow (v57 : FVec F S1x256 .bf16) (v58 : FVec F S32x201x256 .bf16) (r : Fin 32) : FVec F S1x201 .f32 :=
  matmul dot_S1x256_S201x256_S1x201_1_1_0_0_n_n none v57 (textRow v58 r) (constant S1x201 .f32 0x00000000#32)

/-- Sample `r`'s unscaled scores. -/
def scoreRow (v2 : FVec F S32x201x256 .bf16) (v48 : FVec F S32x8x256 .bf16) (v53 : FVec F S256x256 .bf16) (r : Fin 32) :
    FVec F S8x201 .f32 :=
  matmul dot_S8x256_S201x256_S8x201_1_1_0_0_n_n none
    (truncf .bf16 (matmul dot_S8x256_S256x256_S8x256_1_0_0_1_n_n none
      (shapeCast S8x256 (extractStridedSlice S1x8x256 ![(r : ℕ), 0, 0] v48 (slices_seg r)) shapeCasts_S1x8x256_S8x256)
      v53 (constant S8x256 .f32 0x00000000#32)) bitsLt_bf16_f32)
    (textRow v2 r) (constant S8x201 .f32 0x00000000#32)

/-- Sample `r`'s context row from the attention weights `a`. -/
def ctxRow (v2 : FVec F S32x201x256 .bf16) (v42 : FVec F S8x256 .f32) (v56 : FVec F S256x256 .bf16)
    (a : FVec F S32x8x201 .bf16) (r : Fin 32) : FVec F S1x256 .f32 :=
  shapeCast S1x256 (multiReduction .add [0] S256
    (mulf (matmul dot_S8x256_S256x256_S8x256_1_0_0_1_n_n none
      (truncf .bf16 (matmul dot_S8x201_S201x256_S8x256_1_0_0_1_n_n none
        (shapeCast S8x201 (extractStridedSlice S1x8x201 ![(r : ℕ), 0, 0] a (slices_att r)) shapeCasts_S1x8x201_S8x201)
        (textRow v2 r) (constant S8x256 .f32 0x00000000#32)) bitsLt_bf16_f32)
      v56 (constant S8x256 .f32 0x00000000#32)) v42)
    0x00000000#32 reduces_S8x256_S256 (.inl rfl) rfl) shapeCasts_S256_S1x256

theorem cat_row : Shape.Concatenates ((List.ofFn fun _ : Fin 32 => S1x201)) S32x201 0 := by decide
theorem cat_score : Shape.Concatenates ((List.ofFn fun _ : Fin 32 => S1x8x201)) S32x8x201 0 := by decide
theorem cat_ctx : Shape.Concatenates ((List.ofFn fun _ : Fin 32 => S1x256)) S32x256 0 := by decide

theorem cat_row' (f : Fin 32 → (S1x201.Idx → F .f32)) :
    Shape.Concatenates ((List.ofFn fun n : Fin 32 => (⟨S1x201, f n⟩ : (s : Shape) × (s.Idx → F .f32))).map (·.1)) S32x201 0 := by
  rw [List.map_ofFn]; exact cat_row
theorem cat_score' (f : Fin 32 → (S1x8x201.Idx → F .f32)) :
    Shape.Concatenates ((List.ofFn fun n : Fin 32 => (⟨S1x8x201, f n⟩ : (s : Shape) × (s.Idx → F .f32))).map (·.1)) S32x8x201 0 := by
  rw [List.map_ofFn]; exact cat_score
theorem cat_ctx' (f : Fin 32 → (S1x256.Idx → F .f32)) :
    Shape.Concatenates ((List.ofFn fun n : Fin 32 => (⟨S1x256, f n⟩ : (s : Shape) × (s.Idx → F .f32))).map (·.1)) S32x256 0 := by
  rw [List.map_ofFn]; exact cat_ctx

/-- The cosine similarities of the 32 samples. -/
def simsV (v0 : Vec F S32x256 .f32) (v2 : FVec F S32x201x256 .bf16) : FVec F S32x201 .f32 :=
  divf (concatenate S32x201 0 (List.ofFn fun r : Fin 32 => (⟨S1x201, dotRow (k0_pay7 v0) v2 r⟩ : (s : Shape) × (s.Idx → F .f32))) (cat_row' _))
    (maximumf (mulf (broadcastTo S32x201 (k0_pay2 v0) broadcasts_S32x1_S32x201)
      (sqrt (concatenate S32x201 0 (List.ofFn fun r : Fin 32 => (⟨S1x201, sqRow (k0_pay10 (F := F)) (k0_pay11 v2) r⟩ : (s : Shape) × (s.Idx → F .f32))) (cat_row' _))))
      (broadcast S32x201 (Scalar.ofBits .f32 0x322BCC77#32)))

/-- The scaled scores of the 32 samples. -/
def scoresV (v2 : FVec F S32x201x256 .bf16) (v48 : FVec F S32x8x256 .bf16) (v53 : FVec F S256x256 .bf16) : FVec F S32x8x201 .f32 :=
  mulf (concatenate S32x8x201 0 (List.ofFn fun r : Fin 32 =>
      (⟨S1x8x201, shapeCast S1x8x201 (scoreRow v2 v48 v53 r) shapeCasts_S8x201_S1x8x201⟩ : (s : Shape) × (s.Idx → F .f32))) (cat_score' _))
    (broadcast S32x8x201 (Named.named κ "inv_sqrt_dh" 0x3E3504F3#32))

/-- The softmax of the scores along the text rows. -/
def attnV (s : FVec F S32x8x201 .f32) : FVec F S32x8x201 .bf16 :=
  have v583 : FVec F S32x8 .f32 := multiReduction .maximumf [2] S32x8 s 0xFF800000#32 reduces_S32x8x201_S32x8 (.inl rfl) rfl
  have v585 : FVec F S32x8x201 .f32 := broadcastTo S32x8x201 (shapeCast S32x8x1 v583 shapeCasts_S32x8_S32x8x1) broadcasts_S32x8x1_S32x8x201
  have v587 : FVec F S32x8x201 .f32 := exp (subf s v585)
  have v588 : FVec F S32x8 .f32 := multiReduction .add [2] S32x8 v587 0x00000000#32 reduces_S32x8x201_S32x8 (.inl rfl) rfl
  truncf .bf16 (divf v587 (broadcastTo S32x8x201 (shapeCast S32x8x1 v588 shapeCasts_S32x8_S32x8x1) broadcasts_S32x8x1_S32x8x201)) bitsLt_bf16_f32

/-- The context rows of the 32 samples. -/
def ctxV (v2 : FVec F S32x201x256 .bf16) (v56 : FVec F S256x256 .bf16) (a : FVec F S32x8x201 .bf16) : FVec F S32x256 .f32 :=
  concatenate S32x256 0 (List.ofFn fun r : Fin 32 => (⟨S1x256, ctxRow v2 (k0_pay5 (F := F) k0_pay4) v56 a r⟩ : (s : Shape) × (s.Idx → F .f32))) (cat_ctx' _)

set_option maxHeartbeats 2000000 in
theorem k0_pay220_eq (x0 : Vec F S32x256 .f32) (x1 : Vec F S32x201x256 .f32) (x2 : Vec F S256x256 .f32) (x3 : Vec F S256x256 .f32) (x4 : Vec F S256x256 .f32) (x5 : Vec F S256x256 .f32) (x6 : Vec F S1x256 .f32) (x7 : Vec F S1x256 .f32) :
    k0_pay220 x0 x1 x2 x3 x4 x5 x6 x7
      = attnV (scoresV (k0_pay178 x0 x1 x2 x3 x4 x5 x6 x7) (k0_pay182 x0 x1 x2 x3 x4 x5 x6 x7) (k0_pay184 x0 x1 x2 x3 x4 x5 x6 x7)) := rfl

set_option maxHeartbeats 4000000 in
/-- The corrected rows a grid point stores, folded. -/
theorem out0_8_eq (x0 : Vec F S32x256 .f32) (x1 : Vec F S32x201x256 .f32) (x2 : Vec F S256x256 .f32) (x3 : Vec F S256x256 .f32) (x4 : Vec F S256x256 .f32) (x5 : Vec F S256x256 .f32) (x6 : Vec F S1x256 .f32) (x7 : Vec F S1x256 .f32) :
    out0_8 x0 x1 x2 x3 x4 x5 x6 x7
      = View.canon [⟨r0_0, k0_pay177 (ctxV (k0_pay178 x0 x1 x2 x3 x4 x5 x6 x7) (k0_pay185 x0 x1 x2 x3 x4 x5 x6 x7)
          (attnV (scoresV (k0_pay178 x0 x1 x2 x3 x4 x5 x6 x7) (k0_pay182 x0 x1 x2 x3 x4 x5 x6 x7) (k0_pay184 x0 x1 x2 x3 x4 x5 x6 x7))))
          (View.ld x5 r0_2) (View.ld x7 r0_3)⟩] := rfl

set_option maxHeartbeats 4000000 in
/-- The similarities a grid point stores, folded. -/
theorem out0_9_eq (x0 : Vec F S32x256 .f32) (x1 : Vec F S32x201x256 .f32) (x2 : Vec F S256x256 .f32) (x3 : Vec F S256x256 .f32) (x4 : Vec F S256x256 .f32) (x5 : Vec F S256x256 .f32) (x6 : Vec F S1x256 .f32) (x7 : Vec F S1x256 .f32) :
    out0_9 x0 x1 x2 x3 x4 x5 x6 x7
      = View.canon [⟨r0_4, simsV (View.ld x0 r0_0) (k0_pay178 x0 x1 x2 x3 x4 x5 x6 x7)⟩] := rfl

end Cert.KernelIdeal.StageA

end
-- ==== Proof.Attention.lean ====
/- Attention over real rows: the kernel's arrangement (keys' bias left out, values' bias added to the output's,
   heads picked by a 0/1 mask) and the plain one are the same numbers. -/
module

public import Idealize.ShloMosaic.PureOps.Ideal

@[expose] public section

noncomputable section

namespace Cert.Attention

open Idealize.ShloMosaic

/-- A finite sum of reals, cast. -/
theorem cast_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, folded from below all of them, is a real. -/
theorem fold_real {n : ℕ} (s : Fin (n + 1) → ℝ) :
    ∃ M : ℝ, Finset.fold max (⊥ : EReal) (fun x => (s x : EReal)) Finset.univ = (M : EReal) := by
  have key : ∀ t : Finset (Fin (n + 1)), t.Nonempty → ∃ M : ℝ, Finset.fold max (⊥ : EReal) (fun x => (s x : EReal)) t = (M : EReal) := by
    intro t ht
    induction ht using Finset.Nonempty.cons_induction with
    | singleton a => exact ⟨s a, by rw [Finset.fold_singleton]; exact max_eq_left bot_le⟩
    | cons a t ha _ ih =>
      obtain ⟨M, hM⟩ := ih
      refine ⟨max (s a) M, ?_⟩
      rw [Finset.fold_cons, hM]
      exact (EReal.coe_strictMono.monotone.map_max (a := s a) (b := M)).symm
  exact key _ Finset.univ_nonempty

/-- The softmax of a row of reals. -/
def smx {n : ℕ} (s : Fin n → ℝ) (k : Fin n) : ℝ := Real.exp (s k) / ∑ x, Real.exp (s x)

/-- A softmax taken with the row's greatest entry subtracted. -/
theorem softmax_eq {n : ℕ} (s : Fin (n + 1) → ℝ) (k : Fin (n + 1)) :
    Ideal.div (Ideal.exp ((s k : EReal) - Finset.fold max (⊥ : EReal) (fun x => (s x : EReal)) Finset.univ))
      (∑ y, Ideal.exp ((s y : EReal) - Finset.fold max (⊥ : EReal) (fun x => (s x : EReal)) Finset.univ))
      = ((smx s k : ℝ) : EReal) := by
  obtain ⟨M, hM⟩ := fold_real s
  simp only [hM, ← EReal.coe_sub, Ideal.exp_coe, ← cast_sum]
  have hpos : 0 < ∑ y, Real.exp (s y - M) := Finset.sum_pos (fun _ _ => Real.exp_pos _) Finset.univ_nonempty
  rw [Ideal.div_coe hpos.ne', ← EReal.coe_mul]
  congr 1
  have h2 : ∀ y, Real.exp (s y - M) = Real.exp (s y) * Real.exp (-M) := fun y => by rw [← Real.exp_add]; ring_nf
  have hpos' : 0 < ∑ y, Real.exp (s y) := Finset.sum_pos (fun _ _ => Real.exp_pos _) Finset.univ_nonempty
  simp only [smx, h2, ← Finset.sum_mul]
  have := (Real.exp_pos (-M)).ne'
  field_simp

theorem sum_smx {n : ℕ} (s : Fin (n + 1) → ℝ) : ∑ k, smx s k = 1 := by
  have hpos' : 0 < ∑ y, Real.exp (s y) := Finset.sum_pos (fun _ _ => Real.exp_pos _) Finset.univ_nonempty
  simp only [smx, ← Finset.sum_div]
  exact div_self hpos'.ne'

/-- A constant added to every score leaves the softmax. -/
theorem smx_shift {n : ℕ} (s : Fin n → ℝ) (c : ℝ) (k : Fin n) : smx (fun x => s x + c) k = smx s k := by
  have := (Real.exp_pos c).ne'
  simp only [smx, Real.exp_add, ← Finset.sum_mul]
  exact mul_div_mul_right _ _ this

/-- Column `d` of head `h`. -/
def col (h : Fin 8) (d : Fin 32) : Fin 256 := ⟨h.val * 32 + d.val, by omega⟩

/-- A sum over a head's columns, taken over all columns under the head's mask. -/
theorem sum_mask (h : Fin 8) (f : Fin 256 → ℝ) :
    ∑ e : Fin 256, (if e.val / 32 = h.val then f e else 0) = ∑ d : Fin 32, f (col h d) := by
  rw [← Finset.sum_filter]
  refine Finset.sum_nbij' (fun e => ⟨e.val % 32, Nat.mod_lt _ (by norm_num)⟩) (fun d => col h d) ?_ ?_ ?_ ?_ ?_
  · intro e _; exact Finset.mem_univ _
  · intro d _
    simp only [Finset.mem_filter, Finset.mem_univ, true_and, col]
    omega
  · intro e he
    simp only [Finset.mem_filter, Finset.mem_univ, true_and] at he
    apply Fin.ext
    simp only [col]
    omega
  · intro d _
    apply Fin.ext
    simp only [col]
    omega
  · intro e he
    simp only [Finset.mem_filter, Finset.mem_univ, true_and] at he
    congr 1
    apply Fin.ext
    simp only [col]
    omega

/-- One row's data: its query vector, its text rows, the three projections with their biases, the output's projection. -/
structure Row where
  v : Fin 256 → ℝ
  t : Fin 201 → Fin 256 → ℝ
  wq : Fin 256 → Fin 256 → ℝ
  wk : Fin 256 → Fin 256 → ℝ
  wv : Fin 256 → Fin 256 → ℝ
  bq : Fin 256 → ℝ
  bk : Fin 256 → ℝ
  bv : Fin 256 → ℝ
  wo : Fin 256 → Fin 256 → ℝ

namespace Row

variable (R : Row)

/-- The query. -/
def q (e : Fin 256) : ℝ := ∑ x, R.v x * R.wq e x + R.bq e

/-- A score without the keys' bias. -/
def score (h : Fin 8) (n : Fin 201) : ℝ :=
  (∑ x, (∑ d, R.q (col h d) * R.wk (col h d) x) * R.t n x) * (Real.sqrt 32)⁻¹

/-- The attended values. -/
def att (e : Fin 256) : ℝ := ∑ n, smx (R.score ⟨e.val / 32, by omega⟩) n * (∑ x, R.t n x * R.wv e x + R.bv e)

/-- The kernel's scores. -/
theorem kernel_score (h : Fin 8) (n : Fin 201) :
    (∑ x, (∑ e, ((∑ y, (R.v y : EReal) * R.wq e y + R.bq e) * (if e.val / 32 = h.val then (1 : EReal) else 0)) * R.wk e x) * R.t n x)
      * (((Real.sqrt 32)⁻¹ : ℝ) : EReal) = ((R.score h n : ℝ) : EReal) := by
  have h1 : ∀ e : Fin 256, (if e.val / 32 = h.val then (1 : EReal) else 0) = ((if e.val / 32 = h.val then (1 : ℝ) else 0 : ℝ) : EReal) := by
    intro e; split_ifs <;> simp
  simp only [h1, ← EReal.coe_mul, ← cast_sum, ← EReal.coe_add]
  congr 1
  unfold score
  congr 1
  refine Finset.sum_congr rfl fun x _ => ?_
  congr 1
  rw [← sum_mask h (fun e => R.q e * R.wk e x)]
  refine Finset.sum_congr rfl fun e _ => ?_
  unfold q
  split_ifs <;> ring

/-- The plain scores: the kernel's, shifted. -/
theorem ref_score (h : Fin 8) (n : Fin 201) :
    Ideal.div (∑ d, (∑ y, (R.v y : EReal) * R.wq (col h d) y + R.bq (col h d)) * (∑ y, (R.t n y : EReal) * R.wk (col h d) y + R.bk (col h d)))
      (Real.sqrt 32 : EReal) = ((R.score h n + (∑ d, R.q (col h d) * R.bk (col h d)) * (Real.sqrt 32)⁻¹ : ℝ) : EReal) := by
  have h32 : Real.sqrt 32 ≠ 0 := (Real.sqrt_pos.mpr (by norm_num)).ne'
  simp only [← EReal.coe_mul, ← cast_sum, ← EReal.coe_add]
  rw [Ideal.div_coe h32, ← EReal.coe_mul, one_div]
  congr 1
  unfold score
  rw [← add_mul]
  congr 1
  simp only [mul_add, Finset.sum_add_distrib, Finset.sum_mul, Finset.mul_sum, q]
  congr 1
  rw [Finset.sum_comm]
  refine Finset.sum_congr rfl fun x _ => Finset.sum_congr rfl fun d _ => ?_
  ring

/-- The kernel's context row, before the values' bias. -/
theorem kernel_ctx (e : Fin 256) :
    ∑ h : Fin 8, (∑ x, (∑ n, ((smx (R.score h) n : ℝ) : EReal) * R.t n x) * R.wv e x) * (if e.val / 32 = h.val then (1 : EReal) else 0)
      = ((R.att e - R.bv e : ℝ) : EReal) := by
  have h1 : ∀ h : Fin 8, (if e.val / 32 = h.val then (1 : EReal) else 0) = ((if e.val / 32 = h.val then (1 : ℝ) else 0 : ℝ) : EReal) := by
    intro h; split_ifs <;> simp
  simp only [h1, ← EReal.coe_mul, ← cast_sum, ← EReal.coe_add]
  congr 1
  rw [Finset.sum_eq_single (⟨e.val / 32, by omega⟩ : Fin 8)]
  · simp only [if_true, mul_one, att, mul_add, Finset.sum_add_distrib, ← Finset.sum_mul, sum_smx, one_mul, add_sub_cancel_right]
    simp only [Finset.sum_mul, Finset.mul_sum]
    rw [Finset.sum_comm]
    refine Finset.sum_congr rfl fun x _ => Finset.sum_congr rfl fun d _ => ?_
    ring
  · intro h _ hne
    rw [if_neg (fun hh => hne (Fin.ext hh.symm)), mul_zero]
  · intro hh; exact absurd (Finset.mem_univ _) hh

/-- The plain attended values. -/
theorem ref_att (e : Fin 256) :
    ∑ n, ((smx (R.score ⟨e.val / 32, by omega⟩) n : ℝ) : EReal) * (∑ x, (R.t n x : EReal) * R.wv e x + R.bv e)
      = ((R.att e : ℝ) : EReal) := by
  simp only [att, ← EReal.coe_mul, ← cast_sum, ← EReal.coe_add]

/-- The output's projection, with the values' bias carried into its bias. -/
theorem out_eq (j : Fin 256) (bo : EReal) :
    (∑ e, ((R.att e - R.bv e : ℝ) : EReal) * R.wo j e) + ((∑ e, (R.bv e : EReal) * R.wo j e) + bo)
      = (∑ e, ((R.att e : ℝ) : EReal) * R.wo j e) + bo := by
  rw [← add_assoc]
  congr 1
  simp only [← EReal.coe_mul, ← cast_sum, ← EReal.coe_add]
  congr 1
  rw [← Finset.sum_add_distrib]
  refine Finset.sum_congr rfl fun e _ => ?_
  ring

end Row

end Cert.Attention

end
-- ==== Proof.Corrected.lean ====
/- The first kernel's corrected rows at an index, over blocks of real numbers. -/
module

public import proofs.«01_k».proof.Proof.StageA
public import proofs.«01_k».proof.Proof.Attention

@[expose] public section

set_option maxRecDepth 65536

noncomputable section

namespace Cert.KernelIdeal.StageA

open Idealize.ShloMosaic Idealize.ShloMosaic.TcCoe
open Cert.KernelIdeal Cert.KernelIdeal.Gen
open Cert.Attention

/-- The least float, a maximum's start. -/
theorem ofBits_bot : Ideal.ofBits .f32 0xFF800000#32 = ⊥ := by
  simp [Ideal.ofBits, Ideal.ieee]

/-- The scale's name. -/
theorem scale_named : Named.named (F := Ideal) κ "inv_sqrt_dh" (φ := .f32) 0x3E3504F3#32 = (((Real.sqrt 32)⁻¹ : ℝ) : EReal) :=
  IdealRules.named_const.ideal_named_scalar _ _ _ _ rfl

/-- The heads' mask: column `e` belongs to head `e / 32`. -/
theorem mask_at : ∀ (h : Fin 8) (e : Fin 256), k0_pay4 (ix2 h e) = if e.val / 32 = h.val then 1#1 else 0#1 := by
  intro h e
  pointwise [k0_pay4]
  revert h e
  decide +kernel

theorem seg_at (h : Fin 8) (e : Fin 256) :
    k0_pay5 (F := Ideal) k0_pay4 (ix2 h e) = if e.val / 32 = h.val then (1 : EReal) else 0 := by
  pointwise [k0_pay5]
  rw [mask_at]
  split_ifs
  · show (((BitVec.setWidth 32 1#1).toInt : ℝ) : EReal) = 1
    simp
  · show (((BitVec.setWidth 32 0#1).toInt : ℝ) : EReal) = 0
    simp

theorem qseg_at (v0 : Vec Ideal S32x256 .f32) (w : Vec Ideal S256x256 .f32) (b : Vec Ideal S1x256 .f32) (r : Fin 32) (h : Fin 8) (e : Fin 256) :
    k0_pay6 (k0_pay3 v0 w b) k0_pay4 (ix3 r h e)
      = (∑ x, v0 (ix2 r x) * w (ix2 x e) + b (ix2 0 e)) * (if e.val / 32 = h.val then (1 : EReal) else 0) := by
  rw [← seg_at]
  pointwise [k0_pay6, k0_pay3, k0_pay5]

theorem scores_at (v2 : FVec Ideal S32x201x256 .bf16) (v48 : FVec Ideal S32x8x256 .bf16) (v53 : FVec Ideal S256x256 .bf16) (r : Fin 32) (h : Fin 8) (n : Fin 201) :
    scoresV v2 v48 v53 (ix3 r h n)
      = (∑ x, (∑ y, v48 (ix3 r h y) * v53 (ix2 y x)) * v2 (ix3 r n x)) * (((Real.sqrt 32)⁻¹ : ℝ) : EReal) := by
  rw [← scale_named]
  pointwise [scoresV, scoreRow, textRow]

theorem attn_at (s : FVec Ideal S32x8x201 .f32) (r : Fin 32) (h : Fin 8) (n : Fin 201) :
    attnV s (ix3 r h n)
      = Ideal.div (Ideal.exp (s (ix3 r h n) - Finset.fold max (⊥ : EReal) (fun x => s (ix3 r h x)) Finset.univ))
          (∑ y, Ideal.exp (s (ix3 r h y) - Finset.fold max (⊥ : EReal) (fun x => s (ix3 r h x)) Finset.univ)) := by
  rw [← ofBits_bot]
  pointwise [attnV]

theorem ctx_at (v2 : FVec Ideal S32x201x256 .bf16) (v56 : FVec Ideal S256x256 .bf16) (a : FVec Ideal S32x8x201 .bf16) (r : Fin 32) (e : Fin 256) :
    ctxV v2 v56 a (ix2 r e)
      = ∑ h, (∑ x, (∑ n, a (ix3 r h n) * v2 (ix3 r n x)) * v56 (ix2 x e)) * (if e.val / 32 = h.val then (1 : EReal) else 0) := by
  simp only [← seg_at]
  pointwise [ctxV, ctxRow, textRow]

theorem out_at (x : FVec Ideal S32x256 .f32) (w : Vec Ideal S256x256 .f32) (b : Vec Ideal S1x256 .f32) (r : Fin 32) (j : Fin 256) :
    k0_pay177 x w b (ix2 r j) = ∑ e, x (ix2 r e) * w (ix2 e j) + b (ix2 0 j) := by
  pointwise [k0_pay177]

/-- What a block of the first kernel holds at row `r`, when its inputs there are the real row `R`. -/
theorem block_at (x0 : Vec Ideal S32x256 .f32) (x1 : Vec Ideal S32x201x256 .f32) (x2 : Vec Ideal S256x256 .f32) (x3 : Vec Ideal S256x256 .f32) (x4 : Vec Ideal S256x256 .f32) (x5 : Vec Ideal S256x256 .f32) (x6 : Vec Ideal S1x256 .f32) (x7 : Vec Ideal S1x256 .f32)
    (R : Row) (bo : Fin 256 → EReal) (r : Fin 32) (j : Fin 256)
    (h0 : ∀ x, x0 (ix2 r x) = (R.v x : EReal)) (h1 : ∀ n x, x1 (ix3 r n x) = (R.t n x : EReal))
    (h2 : ∀ x e, x2 (ix2 x e) = (R.wq e x : EReal)) (h3 : ∀ e x, x3 (ix2 e x) = (R.wk e x : EReal))
    (h4 : ∀ x e, x4 (ix2 x e) = (R.wv e x : EReal)) (h5 : ∀ e j, x5 (ix2 e j) = (R.wo j e : EReal))
    (h6 : ∀ e, x6 (ix2 0 e) = (R.bq e : EReal)) (h7 : ∀ j, x7 (ix2 0 j) = (∑ e, (R.bv e : EReal) * R.wo j e) + bo j) :
    out0_8 x0 x1 x2 x3 x4 x5 x6 x7 (ix2 r j) = (∑ e, (R.att e : EReal) * R.wo j e) + bo j := by
  rw [out0_8_eq]
  unfold k0_pay178 k0_pay182 k0_pay184 k0_pay185 k0_pay179 k0_pay180
  frame_out
  rw [out_at]
  have e1 : ∀ (h : Fin 8) (n : Fin 201), scoresV (k0_pay1 x1) (k0_pay6 (k0_pay3 x0 x2 x6) k0_pay4) (k0_pay8 x3) (ix3 r h n) = (R.score h n : EReal) := by
    intro h n
    rw [scores_at, ← R.kernel_score h n]
    simp only [qseg_at]
    have e2 : ∀ e x, k0_pay8 x3 (ix2 e x) = (R.wk e x : EReal) := by intro e x; rw [← h3]; pointwise [k0_pay8]
    have e3 : ∀ n x, k0_pay1 x1 (ix3 r n x) = (R.t n x : EReal) := by intro e x; rw [← h1]; pointwise [k0_pay1]
    simp only [e2, e3, h0, h2, h6]
  have e4 : ∀ (h : Fin 8) (n : Fin 201), attnV (scoresV (k0_pay1 x1) (k0_pay6 (k0_pay3 x0 x2 x6) k0_pay4) (k0_pay8 x3)) (ix3 r h n) = (smx (R.score h) n : EReal) := by
    intro h n
    rw [attn_at, ← softmax_eq]
    simp only [e1]
  have e5 : ∀ e : Fin 256, ctxV (k0_pay1 x1) (k0_pay9 x4) (attnV (scoresV (k0_pay1 x1) (k0_pay6 (k0_pay3 x0 x2 x6) k0_pay4) (k0_pay8 x3))) (ix2 r e)
      = ((R.att e - R.bv e : ℝ) : EReal) := by
    intro e
    rw [ctx_at, ← R.kernel_ctx e]
    have e2 : ∀ x, k0_pay9 x4 (ix2 x e) = (R.wv e x : EReal) := by intro x; rw [← h4]; pointwise [k0_pay9]
    have e3 : ∀ n x, k0_pay1 x1 (ix3 r n x) = (R.t n x : EReal) := by intro e x; rw [← h1]; pointwise [k0_pay1]
    simp only [e2, e3, e4]
  simp only [e5, h5, h7]
  exact R.out_eq j (bo j)

/-- The similarities at an index. -/
theorem sims_at (x0 : Vec Ideal S32x256 .f32) (x1 : Vec Ideal S32x201x256 .f32) (x2 : Vec Ideal S256x256 .f32) (x3 : Vec Ideal S256x256 .f32) (x4 : Vec Ideal S256x256 .f32) (x5 : Vec Ideal S256x256 .f32) (x6 : Vec Ideal S1x256 .f32) (x7 : Vec Ideal S1x256 .f32)
    (r : Fin 32) (n : Fin 201) :
    out0_9 x0 x1 x2 x3 x4 x5 x6 x7 (ix2 r n)
      = Ideal.div (∑ x, x0 (ix2 r x) * x1 (ix3 r n x))
      (max (Ideal.sqrt (∑ x, x0 (ix2 r x) * x0 (ix2 r x)) * Ideal.sqrt (∑ x, x1 (ix3 r n x) * x1 (ix3 r n x)))
        (Ideal.ofBits FTy.f32 841731191#32)) := by
  rw [out0_9_eq]
  unfold k0_pay178
  frame_out
  pointwise [simsV, dotRow, sqRow, textRow, k0_pay7, k0_pay2, k0_pay10, k0_pay11, k0_pay1]

end Cert.KernelIdeal.StageA

end
-- ==== Proof.ArrayA.lean ====
/- The first kernel's two result arrays after its grid, over the argument arrays. -/
module

public import proofs.«01_k».proof.Proof.Corrected
public import Idealize.ShloMosaic.Lib.Claim

@[expose] public section

set_option maxRecDepth 65536

noncomputable section

namespace Cert.KernelIdeal.StageA

open Idealize.ShloMosaic Idealize.ShloMosaic.TcCoe Idealize.SL.Sem
open Idealize.ShloMosaic.Pipeline (Dat)
open Cert.KernelIdeal Cert.KernelIdeal.Gen
open Cert.Attention

/-- Where each window's block sits at a grid point. -/
theorem idx : ∀ t : Fin cfg0.N, win0_0.index t = ![t.val, 0] ∧ win0_1.index t = ![t.val, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] :=
  (by decide +kernel : ∀ t : Fin grid0.N, _)

variable (m : (ℓ : Loc nD τ sig) → Buf (Elt Ideal) ℓ) (ρ : Dev nD → PrngReg)

/-- The argument arrays, as vectors. -/
abbrev X0 (c : Dev nD) : FVec Ideal S1024x256 .f32 := m ((c : Thread nD τ).loc main_arg0)
abbrev X1 (c : Dev nD) : FVec Ideal S1024x201x256 .f32 := m ((c : Thread nD τ).loc main_arg1)
abbrev X4 (c : Dev nD) : FVec Ideal S768x256 .f32 := m ((c : Thread nD τ).loc main_arg4)
abbrev X5 (c : Dev nD) : FVec Ideal S768 .f32 := m ((c : Thread nD τ).loc main_arg5)
abbrev X6 (c : Dev nD) : FVec Ideal S256x256 .f32 := m ((c : Thread nD τ).loc main_arg6)
abbrev X7 (c : Dev nD) : FVec Ideal S256 .f32 := m ((c : Thread nD τ).loc main_arg7)

theorem V1_arg0 (c : Dev nD) : V1 m ρ c main_arg0 = X0 m c := W1_args m ρ c main_arg0 (by decide)
theorem V1_arg1 (c : Dev nD) : V1 m ρ c main_arg1 = X1 m c := W1_args m ρ c main_arg1 (by decide)

theorem V1_wq (c : Dev nD) (x e : Fin 256) :
    (V1 m ρ c main_v1 : FVec Ideal S256x256 .f32) (ix2 x e) = X4 m c (ix2 ⟨e.val, by omega⟩ x) := by
  show (StableHlo.after hostOps0 (W0 m ρ c) (Proc.devRef .tc main_v1) : FVec Ideal S256x256 .f32) (ix2 x e) = _
  entry_read
  pointwise

theorem V1_wk (c : Dev nD) (e x : Fin 256) :
    (V1 m ρ c main_v2 : FVec Ideal S256x256 .f32) (ix2 e x) = X4 m c (ix2 ⟨256 + e.val, by omega⟩ x) := by
  show (StableHlo.after hostOps0 (W0 m ρ c) (Proc.devRef .tc main_v2) : FVec Ideal S256x256 .f32) (ix2 e x) = _
  entry_read
  pointwise

theorem V1_wv (c : Dev nD) (x e : Fin 256) :
    (V1 m ρ c main_v4 : FVec Ideal S256x256 .f32) (ix2 x e) = X4 m c (ix2 ⟨512 + e.val, by omega⟩ x) := by
  show (StableHlo.after hostOps0 (W0 m ρ c) (Proc.devRef .tc main_v4) : FVec Ideal S256x256 .f32) (ix2 x e) = _
  entry_read
  pointwise

theorem V1_wo (c : Dev nD) (e j : Fin 256) :
    (V1 m ρ c main_v5 : FVec Ideal S256x256 .f32) (ix2 e j) = X6 m c (ix2 j e) := by
  show (StableHlo.after hostOps0 (W0 m ρ c) (Proc.devRef .tc main_v5) : FVec Ideal S256x256 .f32) (ix2 e j) = _
  entry_read
  pointwise

theorem V1_bq (c : Dev nD) (e : Fin 256) :
    (V1 m ρ c main_v7 : FVec Ideal S1x256 .f32) (ix2 0 e) = X5 m c (ix1 ⟨e.val, by omega⟩) := by
  show (StableHlo.after hostOps0 (W0 m ρ c) (Proc.devRef .tc main_v7) : FVec Ideal S1x256 .f32) (ix2 0 e) = _
  entry_read
  pointwise

theorem V1_bvo (c : Dev nD) (j : Fin 256) :
    (V1 m ρ c main_v11 : FVec Ideal S1x256 .f32) (ix2 0 j)
      = (∑ e : Fin 256, X5 m c (ix1 ⟨512 + e.val, by omega⟩) * X6 m c (ix2 j e)) + X7 m c (ix1 j) := by
  show (StableHlo.after hostOps0 (W0 m ρ c) (Proc.devRef .tc main_v11) : FVec Ideal S1x256 .f32) (ix2 0 j) = _
  entry_read
  pointwise

/-- Sample `b`'s data, as real numbers. -/
def rowOf (x0 : FVec Ideal S1024x256 .f32) (x1 : FVec Ideal S1024x201x256 .f32) (x4 : FVec Ideal S768x256 .f32)
    (x5 : FVec Ideal S768 .f32) (x6 : FVec Ideal S256x256 .f32) (b : Fin 1024) : Row where
  v x := EReal.toReal (x0 (ix2 b x))
  t n x := EReal.toReal (x1 (ix3 b n x))
  wq e x := EReal.toReal (x4 (ix2 ⟨e.val, by omega⟩ x))
  wk e x := EReal.toReal (x4 (ix2 ⟨256 + e.val, by omega⟩ x))
  wv e x := EReal.toReal (x4 (ix2 ⟨512 + e.val, by omega⟩ x))
  bq e := EReal.toReal (x5 (ix1 ⟨e.val, by omega⟩))
  bk e := EReal.toReal (x5 (ix1 ⟨256 + e.val, by omega⟩))
  bv e := EReal.toReal (x5 (ix1 ⟨512 + e.val, by omega⟩))
  wo j e := EReal.toReal (x6 (ix2 j e))

/-- The corrected row's entry. -/
def corr (x0 : FVec Ideal S1024x256 .f32) (x1 : FVec Ideal S1024x201x256 .f32) (x4 : FVec Ideal S768x256 .f32)
    (x5 : FVec Ideal S768 .f32) (x6 : FVec Ideal S256x256 .f32) (x7 : FVec Ideal S256 .f32) (b : Fin 1024) (j : Fin 256) : EReal :=
  (∑ e, ((rowOf x0 x1 x4 x5 x6 b).att e : EReal) * (rowOf x0 x1 x4 x5 x6 b).wo j e) + x7 (ix1 j)

/-- An array of real numbers. -/
def Real' {S : Shape} {φ : FTy} (x : FVec Ideal S φ) : Prop := ∀ i, x i = ((EReal.toReal (x i) : ℝ) : EReal)

/-- A sample's similarity with one of its text rows. -/
def sim (x0 : FVec Ideal S1024x256 .f32) (x1 : FVec Ideal S1024x201x256 .f32) (b : Fin 1024) (n : Fin 201) : EReal :=
  Ideal.div (∑ x, x0 (ix2 b x) * x1 (ix3 b n x))
    (max (Ideal.sqrt (∑ x, x0 (ix2 b x) * x0 (ix2 b x)) * Ideal.sqrt (∑ x, x1 (ix3 b n x) * x1 (ix3 b n x)))
      (Ideal.ofBits FTy.f32 841731191#32))

/-- The sample at row `r` of grid point `t`. -/
def smp (t : Fin cfg0.N) (r : Fin 32) : Fin 1024 :=
  ⟨t.val * 32 + r.val, by have h : t.val < 32 := t.isLt; omega⟩

theorem blk_vis (c : Dev nD) (t : Fin cfg0.N) (r : Fin 32) (x : Fin 256) :
    (iblk0 (V1 m ρ) c 0 t : FVec Ideal S32x256 .f32) (ix2 r x) = X0 m c (ix2 (smp t r) x) := by
  rw [← V1_arg0 m ρ c]
  blk_ext [iblk0, idx t, smp]

theorem blk_text (c : Dev nD) (t : Fin cfg0.N) (r : Fin 32) (n : Fin 201) (x : Fin 256) :
    (iblk0 (V1 m ρ) c 1 t : FVec Ideal S32x201x256 .f32) (ix3 r n x) = X1 m c (ix3 (smp t r) n x) := by
  rw [← V1_arg1 m ρ c]
  blk_ext [iblk0, idx t, smp]

theorem blk_wq (c : Dev nD) (t : Fin cfg0.N) (x e : Fin 256) :
    (iblk0 (V1 m ρ) c 2 t : FVec Ideal S256x256 .f32) (ix2 x e) = X4 m c (ix2 ⟨e.val, by omega⟩ x) := by
  rw [← V1_wq m ρ c]
  blk_ext [iblk0, idx t]

theorem blk_wk (c : Dev nD) (t : Fin cfg0.N) (e x : Fin 256) :
    (iblk0 (V1 m ρ) c 3 t : FVec Ideal S256x256 .f32) (ix2 e x) = X4 m c (ix2 ⟨256 + e.val, by omega⟩ x) := by
  rw [← V1_wk m ρ c]
  blk_ext [iblk0, idx t]

theorem blk_wv (c : Dev nD) (t : Fin cfg0.N) (x e : Fin 256) :
    (iblk0 (V1 m ρ) c 4 t : FVec Ideal S256x256 .f32) (ix2 x e) = X4 m c (ix2 ⟨512 + e.val, by omega⟩ x) := by
  rw [← V1_wv m ρ c]
  blk_ext [iblk0, idx t]

theorem blk_wo (c : Dev nD) (t : Fin cfg0.N) (e j : Fin 256) :
    (iblk0 (V1 m ρ) c 5 t : FVec Ideal S256x256 .f32) (ix2 e j) = X6 m c (ix2 j e) := by
  rw [← V1_wo m ρ c]
  blk_ext [iblk0, idx t]

theorem blk_bq (c : Dev nD) (t : Fin cfg0.N) (e : Fin 256) :
    (iblk0 (V1 m ρ) c 6 t : FVec Ideal S1x256 .f32) (ix2 0 e) = X5 m c (ix1 ⟨e.val, by omega⟩) := by
  rw [← V1_bq m ρ c]
  blk_ext [iblk0, idx t]

theorem blk_bvo (c : Dev nD) (t : Fin cfg0.N) (j : Fin 256) :
    (iblk0 (V1 m ρ) c 7 t : FVec Ideal S1x256 .f32) (ix2 0 j)
      = (∑ e : Fin 256, X5 m c (ix1 ⟨512 + e.val, by omega⟩) * X6 m c (ix2 j e)) + X7 m c (ix1 j) := by
  rw [← V1_bvo m ρ c]
  blk_ext [iblk0, idx t]

/-- The first kernel leaves the corrected rows. -/
theorem corrected (c : Dev nD) (r0 : Real' (X0 m c)) (r1 : Real' (X1 m c)) (r4 : Real' (X4 m c)) (r5 : Real' (X5 m c)) (r6 : Real' (X6 m c)) :
    ((dat0 (V1 m ρ) c).arrAt 8 cfg0.N : FVec Ideal S1024x256 .f32)
      = fun i => corr (X0 m c) (X1 m c) (X4 m c) (X5 m c) (X6 m c) (X7 m c) (i 0) (i 1) := by
  refine (dat0 (V1 m ρ) c).arrAt_eq_of_covers 8 _ (by decide +kernel) fun t _ y => ?_
  blk_simp [idx t]
  rw [after0_8]
  have hy : y = ix2 (y 0 : Fin 32) (y 1 : Fin 256) := by blk_ext
  have ha : (((win0_8.blk t).view.emb y 0 : Fin 1024)) = smp t (y 0) := by
    apply Fin.ext; blk_simp [idx t, smp]
  have hb : (((win0_8.blk t).view.emb y 1 : Fin 256)) = (y 1 : Fin 256) := by
    apply Fin.ext; blk_simp [idx t]
  refine Eq.trans ?_ (congrArg₂ (corr (X0 m c) (X1 m c) (X4 m c) (X5 m c) (X6 m c) (X7 m c)) ha hb).symm
  refine Eq.trans (congrArg _ hy) ?_
  refine block_at _ _ _ _ _ _ _ _ (rowOf (X0 m c) (X1 m c) (X4 m c) (X5 m c) (X6 m c) (smp t (y 0))) (fun j => X7 m c (ix1 j)) (y 0) (y 1) ?_ ?_ ?_ ?_ ?_ ?_ ?_ ?_
  · intro x; exact (blk_vis m ρ c t (y 0) x).trans (r0 _)
  · intro n x; exact (blk_text m ρ c t (y 0) n x).trans (r1 _)
  · intro x e; exact (blk_wq m ρ c t x e).trans (r4 _)
  · intro e x; exact (blk_wk m ρ c t e x).trans (r4 _)
  · intro x e; exact (blk_wv m ρ c t x e).trans (r4 _)
  · intro e j; exact (blk_wo m ρ c t e j).trans (r6 _)
  · intro e; exact (blk_bq m ρ c t e).trans (r5 _)
  · intro j
    refine (blk_bvo m ρ c t j).trans ?_
    refine congrArg (· + X7 m c (ix1 j)) (Finset.sum_congr rfl fun e _ => ?_)
    exact congrArg₂ (· * ·) (r5 _) (r6 _)

/-- And the similarities. -/
theorem sims (c : Dev nD) :
    ((dat0 (V1 m ρ) c).arrAt 9 cfg0.N : FVec Ideal S1024x201 .f32)
      = fun i => sim (X0 m c) (X1 m c) (i 0) (i 1) := by
  refine (dat0 (V1 m ρ) c).arrAt_eq_of_covers 9 _ (by decide +kernel) fun t _ y => ?_
  blk_simp [idx t]
  rw [after0_9]
  have hy : y = ix2 (y 0 : Fin 32) (y 1 : Fin 201) := by blk_ext
  have ha : (((win0_9.blk t).view.emb y 0 : Fin 1024)) = smp t (y 0) := by
    apply Fin.ext; blk_simp [idx t, smp]
  have hb : (((win0_9.blk t).view.emb y 1 : Fin 201)) = (y 1 : Fin 201) := by
    apply Fin.ext; blk_simp [idx t]
  refine Eq.trans ?_ (congrArg₂ (sim (X0 m c) (X1 m c)) ha hb).symm
  refine Eq.trans (congrArg _ hy) ?_
  have key : ∀ (r : Fin 32) (n : Fin 201), (out0_9 (iblk0 (V1 m ρ) c 0 t) (iblk0 (V1 m ρ) c 1 t) (iblk0 (V1 m ρ) c 2 t) (iblk0 (V1 m ρ) c 3 t)
      (iblk0 (V1 m ρ) c 4 t) (iblk0 (V1 m ρ) c 5 t) (iblk0 (V1 m ρ) c 6 t) (iblk0 (V1 m ρ) c 7 t) : FVec Ideal S32x201 .f32) (ix2 r n)
      = sim (X0 m c) (X1 m c) (smp t r) n := by
    intro r n
    refine (sims_at _ _ _ _ _ _ _ _ r n).trans ?_
    unfold sim
    have h0 := fun x => blk_vis m ρ c t r x
    have h1 := fun x => blk_text m ρ c t r n x
    simp only [h0, h1]
  exact key (y 0) (y 1)

end Cert.KernelIdeal.StageA

end
-- ==== Proof.Finite.lean ====
/- What the precondition says: five of the arguments hold finite numbers. -/
module

public import proofs.«01_k».proof.Defs
public import proofs.«01_k».proof.Proof.Gen.Pre_finite
public import proofs.«01_k».proof.Proof.ArrayA
public import Idealize.ShloMosaic.Lib.ReduceAll
public import Idealize.ShloMosaic.Lib.Pointwise

@[expose] public section

noncomputable section

namespace Cert.Finite

open Idealize.ShloMosaic Idealize.ShloMosaic.TcCoe
open Cert.KernelIdeal.StageA (Real')

/-- A number whose magnitude is below infinity is a real number. -/
theorem real_of_lt (x : EReal) (h : max x (-x) < ⊤) : x = ((x.toReal : ℝ) : EReal) := by
  induction x using EReal.rec with
  | bot => simp at h
  | top => simp at h
  | coe r => simp

/-- An array whose magnitudes are all below infinity is an array of real numbers. -/
theorem real_of_all {S : Shape} {axes : List (Fin S.rank)} (x : FVec Ideal S .f32)
    (hb : (⟨0, ![]⟩ : Shape).BroadcastsInDim S (![] : Fin 0 → Fin S.rank))
    (h : S.ReducesTo axes ⟨0, ![]⟩) (hu : 0 < (⟨0, ![]⟩ : Shape).numel)
    (e : Host.reduce IntOp.andi (cmpf .olt (Host.absf x) (broadcastInDim S ![] hb (constant (F := Ideal) ⟨0, ![]⟩ .f32 0x7F800000#32)))
      (constantI ⟨0, ![]⟩ 1 1#1) h hu ix0 = 1#1) : Real' x := by
  intro i
  have e' := Host.reduce_andi_all _ _ _ _ ix0 e i
  have htop : Ideal.ofBits .f32 0x7F800000#32 = ⊤ := by simp [Ideal.ofBits, Ideal.ieee]
  have e2 : Ideal.cmp .olt (max (x i : EReal) (-(x i : EReal))) (Ideal.ofBits .f32 0x7F800000#32) = 1#1 := e'
  rw [htop] at e2
  refine real_of_lt _ ?_
  by_contra hn
  simp [Ideal.cmp, hn] at e2

/-- Two flags whose conjunction is set are both set. -/
theorem both {a b : IVec ⟨0, ![]⟩ 1} (h : andi a b ix0 = 1#1) : a ix0 = 1#1 ∧ b ix0 = 1#1 := by
  have h' : (a ix0) &&& (b ix0) = 1#1 := h
  generalize a ix0 = p at h' ⊢
  generalize b ix0 = q at h' ⊢
  revert h'; revert p q; decide

/-- Under the precondition the image rows, the text features, the stacked projections, their bias and the output projection are arrays of real numbers. -/
theorem reals (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) :
    Real' (Cert.KernelIdeal.StageA.X0 m c) ∧ Real' (Cert.KernelIdeal.StageA.X1 m c) ∧ Real' (Cert.KernelIdeal.StageA.X4 m c)
      ∧ Real' (Cert.KernelIdeal.StageA.X5 m c) ∧ Real' (Cert.KernelIdeal.StageA.X6 m c) := by
  have e := congrFun (h c) ix0
  simp only [Cert.Pre_finite.fn, Cert.Pre_finite.fn_part1] at e
  obtain ⟨e, h6⟩ := both e
  obtain ⟨e, h5⟩ := both e
  obtain ⟨e, h4⟩ := both e
  obtain ⟨h0, h1⟩ := both e
  exact ⟨real_of_all _ _ _ _ h0, real_of_all _ _ _ _ h1, real_of_all _ _ _ _ h4, real_of_all _ _ _ _ h5, real_of_all _ _ _ _ h6⟩

end Cert.Finite

end
-- ==== Proof.RefCorrected.lean ====
/- The reference's corrected rows at an index: the same numbers as the kernel's. -/
module

public import proofs.«01_k».proof.Proof.Gen.ReferenceIdeal.Run
public import proofs.«01_k».proof.Proof.ArrayA

@[expose] public section

set_option maxRecDepth 65536

noncomputable section

namespace Cert.ReferenceIdeal.Point

open Idealize.ShloMosaic Idealize.ShloMosaic.TcCoe
open Cert.ReferenceIdeal Cert.ReferenceIdeal.Gen Cert.ReferenceIdeal.Value
open Cert.Attention
open Cert.KernelIdeal.StageA (rowOf corr Real' ofBits_bot sim)

theorem ofBits_32 : Ideal.ofBits .f32 0x42000000#32 = ((32 : ℝ) : EReal) := by
  simp [Ideal.ofBits, Ideal.ieee, -EReal.coe_mul]; norm_num

variable (V0 : Valuation τ sig (Elt Ideal))

/-- The argument arrays, as vectors. -/
abbrev Y0 : FVec Ideal S1024x256 .f32 := V0 (Proc.devRef .tc main_arg0)
abbrev Y1 : FVec Ideal S1024x201x256 .f32 := V0 (Proc.devRef .tc main_arg1)
abbrev Y2 : FVec Ideal S_ .f32 := V0 (Proc.devRef .tc main_arg2)
abbrev Y3 : FVec Ideal S_ .f32 := V0 (Proc.devRef .tc main_arg3)
abbrev Y4 : FVec Ideal S768x256 .f32 := V0 (Proc.devRef .tc main_arg4)
abbrev Y5 : FVec Ideal S768 .f32 := V0 (Proc.devRef .tc main_arg5)
abbrev Y6 : FVec Ideal S256x256 .f32 := V0 (Proc.devRef .tc main_arg6)
abbrev Y7 : FVec Ideal S256 .f32 := V0 (Proc.devRef .tc main_arg7)

/-- The scores, as a vector. -/
abbrev scoresR : FVec Ideal S1024x8x1x201 .f32 := res_main_v74 V0

theorem scores_at (b : Fin 1024) (h : Fin 8) (n : Fin 201) :
    scoresR V0 (ix4 b h 0 n)
      = Ideal.div (∑ d : Fin 32, (∑ y, Y0 V0 (ix2 b y) * Y4 V0 (ix2 ⟨h.val * 32 + d.val, by omega⟩ y) + Y5 V0 (ix1 ⟨h.val * 32 + d.val, by omega⟩))
          * (∑ y, Y1 V0 (ix3 b n y) * Y4 V0 (ix2 ⟨256 + (h.val * 32 + d.val), by omega⟩ y) + Y5 V0 (ix1 ⟨256 + (h.val * 32 + d.val), by omega⟩)))
        (Ideal.sqrt (Ideal.ofBits .f32 0x42000000#32)) := by
  pointwise [scoresR, res_main_v74]

/-- The exponentials of scores with their greatest subtracted. -/
def expR (s : FVec Ideal S1024x8x1x201 .f32) : FVec Ideal S1024x8x1x201 .f32 :=
  Host.exp (subf s (broadcastInDim S1024x8x1x201 ![0, 1, 2, 3] bcast_S1024x8x1x1_S1024x8x1x201_0_1_2_3 (broadcastInDim S1024x8x1x1 ![0, 1, 2] bcast_S1024x8x1_S1024x8x1x1_0_1_2 (maximumf (broadcastInDim S1024x8x1 ![] bcast_S_S1024x8x1 (constant S_ .f32 0xFF800000#32)) (Host.reduce FloatOps.maximumf s (constant S_ .f32 0xFF800000#32) reducesTo_S1024x8x1x201_S1024x8x1_d3 h_S_)))))

theorem v81_eq : (res_main_v81 V0 : FVec Ideal S1024x8x1x201 .f32) = expR (scoresR V0) := rfl

theorem exp_at (s : FVec Ideal S1024x8x1x201 .f32) (b : Fin 1024) (h : Fin 8) (n : Fin 201) :
    expR s (ix4 b h 0 n) = Ideal.exp (s (ix4 b h 0 n) - Finset.fold max (⊥ : EReal) (fun x => s (ix4 b h 0 x)) Finset.univ) := by
  pointwise [expR]
  rw [ofBits_bot, max_eq_right bot_le]

theorem v94_at (b : Fin 1024) (j : Fin 256) : (res_main_v94 V0 : FVec Ideal S1024x256 .f32) (ix2 b j)
    = ∑ x : Fin 256, (∑ n, Ideal.div ((res_main_v81 V0 : FVec Ideal S1024x8x1x201 .f32) (ix4 b (⟨x.val / 32, by omega⟩ : Fin 8) 0 n))
            (∑ k, (res_main_v81 V0 : FVec Ideal S1024x8x1x201 .f32) (ix4 b (⟨x.val / 32, by omega⟩ : Fin 8) 0 k)) *
              (∑ y, Y1 V0 (ix3 b n y) * Y4 V0 (ix2 ⟨512 + x.val, by omega⟩ y) + Y5 V0 (ix1 ⟨512 + x.val, by omega⟩))) * Y6 V0 (ix2 j x)
      + Y7 V0 (ix1 j) := by
  pointwise [res_main_v94]

/-- The reference's corrected rows. -/
theorem corrected (r0 : Real' (Y0 V0)) (r1 : Real' (Y1 V0)) (r4 : Real' (Y4 V0)) (r5 : Real' (Y5 V0)) (r6 : Real' (Y6 V0)) :
    (res_main_v94 V0 : FVec Ideal S1024x256 .f32)
      = fun i => corr (Y0 V0) (Y1 V0) (Y4 V0) (Y5 V0) (Y6 V0) (Y7 V0) (i 0) (i 1) := by
  have key : ∀ (b : Fin 1024) (j : Fin 256), (res_main_v94 V0 : FVec Ideal S1024x256 .f32) (ix2 b j)
      = corr (Y0 V0) (Y1 V0) (Y4 V0) (Y5 V0) (Y6 V0) (Y7 V0) b j := by
    intro b j
    set R := rowOf (Y0 V0) (Y1 V0) (Y4 V0) (Y5 V0) (Y6 V0) b with hR
    have q0 : ∀ x, Y0 V0 (ix2 b x) = (R.v x : EReal) := fun x => r0 _
    have q1 : ∀ n x, Y1 V0 (ix3 b n x) = (R.t n x : EReal) := fun n x => r1 _
    have q2 : ∀ (h : Fin 8) (d : Fin 32) (y : Fin 256), Y4 V0 (ix2 ⟨h.val * 32 + d.val, by omega⟩ y) = (R.wq (col h d) y : EReal) := fun h d y => r4 _
    have q3 : ∀ (h : Fin 8) (d : Fin 32) (y : Fin 256), Y4 V0 (ix2 ⟨256 + (h.val * 32 + d.val), by omega⟩ y) = (R.wk (col h d) y : EReal) := fun h d y => r4 _
    have q4 : ∀ (e y : Fin 256), Y4 V0 (ix2 ⟨512 + e.val, by omega⟩ y) = (R.wv e y : EReal) := fun e y => r4 _
    have q5 : ∀ (h : Fin 8) (d : Fin 32), Y5 V0 (ix1 ⟨h.val * 32 + d.val, by omega⟩) = (R.bq (col h d) : EReal) := fun h d => r5 _
    have q6 : ∀ (h : Fin 8) (d : Fin 32), Y5 V0 (ix1 ⟨256 + (h.val * 32 + d.val), by omega⟩) = (R.bk (col h d) : EReal) := fun h d => r5 _
    have q7 : ∀ (e : Fin 256), Y5 V0 (ix1 ⟨512 + e.val, by omega⟩) = (R.bv e : EReal) := fun e => r5 _
    have q8 : ∀ (e : Fin 256), Y6 V0 (ix2 j e) = (R.wo j e : EReal) := fun e => r6 _
    have hs : ∀ (h : Fin 8) (n : Fin 201), scoresR V0 (ix4 b h 0 n)
        = ((R.score h n + (∑ d, R.q (col h d) * R.bk (col h d)) * (Real.sqrt 32)⁻¹ : ℝ) : EReal) := by
      intro h n
      rw [scores_at, ← R.ref_score h n, ofBits_32, Ideal.sqrt_coe, if_neg (by norm_num)]
      simp only [q0, q1, q2, q3, q5, q6]
    rw [v94_at]
    unfold corr
    rw [← hR]
    refine congrArg (· + Y7 V0 (ix1 j)) (Finset.sum_congr rfl fun e _ => ?_)
    rw [q8, ← R.ref_att e]
    refine congrArg (· * (R.wo j e : EReal)) (Finset.sum_congr rfl fun n _ => ?_)
    simp only [q1, q4, q7]
    refine congrArg (· * _) ?_
    rw [v81_eq]
    simp only [exp_at, hs]
    exact (softmax_eq (fun x => R.score _ x + _) n).trans (congrArg _ (smx_shift _ _ _))
  funext i
  refine (congrArg _ (?_ : i = ix2 (i 0) (i 1))).trans (key (i 0) (i 1))
  blk_ext

end Cert.ReferenceIdeal.Point

end
-- ==== Proof.Ranks.lean ====
/- Ranking a row and sorting it are the same thing: the entries whose rank falls in a range are the sorted entries at
   those positions. -/
module

public import Idealize.ShloMosaic.Lib.Pointwise

@[expose] public section

namespace Cert.Ranks

variable {α : Type} [LinearOrder α] {N : ℕ}

/-- Entry `k` comes before entry `n`: it is smaller, or equal and further left. -/
def Before (f : Fin N → α) (k n : Fin N) : Prop := f k < f n ∨ (f k = f n ∧ k < n)

instance (f : Fin N → α) (k n : Fin N) : Decidable (Before f k n) := inferInstanceAs (Decidable (_ ∨ _))

/-- How many entries come before entry `n`. -/
def rank (f : Fin N → α) (n : Fin N) : ℕ := (Finset.univ.filter fun k => Before f k n).card

theorem before_trans {f : Fin N → α} {a b c : Fin N} (h : Before f a b) (h' : Before f b c) : Before f a c := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

theorem before_irrefl (f : Fin N → α) (a : Fin N) : ¬ Before f a a := by
  rintro (h | ⟨_, h⟩) <;> exact lt_irrefl _ h

theorem before_total (f : Fin N → α) {a b : Fin N} (h : a ≠ b) : Before f a b ∨ Before f b a := by
  rcases lt_trichotomy (f a) (f b) with h1 | h1 | h1
  · exact Or.inl (Or.inl h1)
  · rcases lt_or_gt_of_ne h with h2 | h2
    · exact Or.inl (Or.inr ⟨h1, h2⟩)
    · exact Or.inr (Or.inr ⟨h1.symm, h2⟩)
  · exact Or.inr (Or.inl h1)

theorem rank_lt_of_before {f : Fin N → α} {a b : Fin N} (h : Before f a b) : rank f a < rank f b := by
  refine Finset.card_lt_card ?_
  rw [Finset.ssubset_iff_of_subset]
  · exact ⟨a, by simpa using h, by simpa using before_irrefl f a⟩
  · intro k hk
    simp only [Finset.mem_filter, Finset.mem_univ, true_and] at hk ⊢
    exact before_trans hk h

theorem rank_lt (f : Fin N → α) (n : Fin N) : rank f n < N := by
  have : rank f n < (Finset.univ : Finset (Fin N)).card := by
    refine Finset.card_lt_card ?_
    rw [Finset.ssubset_iff_of_subset (Finset.filter_subset _ _)]
    exact ⟨n, Finset.mem_univ _, by simpa using before_irrefl f n⟩
  simpa using this

theorem rank_injective (f : Fin N → α) : Function.Injective fun n => (⟨rank f n, rank_lt f n⟩ : Fin N) := by
  intro a b h
  by_contra hne
  have h' : rank f a = rank f b := congrArg Fin.val h
  rcases before_total f hne with h1 | h1
  · exact absurd h' (rank_lt_of_before h1).ne
  · exact absurd h'.symm (rank_lt_of_before h1).ne

/-- Ranking as a rearrangement of the positions. -/
noncomputable def rankPerm (f : Fin N → α) : Equiv.Perm (Fin N) :=
  Equiv.ofBijective _ (Finite.injective_iff_bijective.mp (rank_injective f))

theorem rankPerm_val (f : Fin N → α) (n : Fin N) : (rankPerm f n : ℕ) = rank f n := rfl

/-- Read in order of rank, the row ascends. -/
theorem monotone_rank (f : Fin N → α) : Monotone (f ∘ (rankPerm f).symm) := by
  intro i j hij
  by_contra h
  have h1 : Before f ((rankPerm f).symm j) ((rankPerm f).symm i) := Or.inl (not_le.mp h)
  have h2 := rank_lt_of_before h1
  rw [← rankPerm_val, ← rankPerm_val, Equiv.apply_symm_apply, Equiv.apply_symm_apply] at h2
  exact absurd h2 (not_lt.mpr hij)

/-- Of two ascending rearrangements of a row, the first is nowhere below the second. -/
theorem ascending_le (f : Fin N → α) (σ τ : Equiv.Perm (Fin N)) (hσ : Monotone (f ∘ σ)) (hτ : Monotone (f ∘ τ)) (i : Fin N) :
    f (τ i) ≤ f (σ i) := by
  by_contra h
  have h : f (σ i) < f (τ i) := not_le.mp h
  have a : (Finset.univ.filter fun j => f (σ j) < f (τ i)).card = (Finset.univ.filter fun j => f (τ j) < f (τ i)).card := by
    have q : ∀ π : Equiv.Perm (Fin N), (Finset.univ.filter fun j => f (π j) < f (τ i)).card = (Finset.univ.filter fun k => f k < f (τ i)).card := fun π =>
      Finset.card_bij (fun j _ => π j) (fun j hj => by simpa using hj) (fun j _ k _ e => π.injective e)
        (fun k hk => ⟨π.symm k, by simpa using hk, by simp⟩)
    rw [q σ, q τ]
  have b : (Finset.Iic i).card ≤ (Finset.univ.filter fun j => f (σ j) < f (τ i)).card := by
    refine Finset.card_le_card fun j hj => ?_
    simp only [Finset.mem_filter, Finset.mem_univ, true_and]
    exact lt_of_le_of_lt (hσ (Finset.mem_Iic.mp hj)) h
  have c : (Finset.univ.filter fun j => f (τ j) < f (τ i)).card ≤ (Finset.Iio i).card := by
    refine Finset.card_le_card fun j hj => ?_
    simp only [Finset.mem_filter, Finset.mem_univ, true_and] at hj
    rw [Finset.mem_Iio]
    by_contra hn
    exact absurd hj (not_lt.mpr (hτ (not_lt.mp hn)))
  rw [Fin.card_Iic] at b
  rw [Fin.card_Iio] at c
  omega

/-- An ascending rearrangement of the row, at an entry's rank, is that entry. -/
theorem sorted_at_rank (f : Fin N → α) (σ : Fin N → Fin N) (hσ : Function.Bijective σ) (hm : Monotone (f ∘ σ)) (n : Fin N) :
    f (σ (rankPerm f n)) = f n := by
  have e : f (Equiv.ofBijective σ hσ (rankPerm f n)) = f ((rankPerm f).symm (rankPerm f n)) :=
    le_antisymm (ascending_le f (rankPerm f).symm (Equiv.ofBijective σ hσ) (monotone_rank f) hm _)
      (ascending_le f (Equiv.ofBijective σ hσ) (rankPerm f).symm hm (monotone_rank f) _)
  simpa using e

/-- Summing over the entries whose rank lies in a range of 67 is summing over the sorted entries at those positions. -/
theorem sum_range (f : Fin 201 → EReal) (σ : Fin 201 → Fin 201) (hσ : Function.Bijective σ) (hm : Monotone (f ∘ σ)) (lo : ℕ) (hlo : lo + 67 ≤ 201)
    (g : EReal → EReal) :
    (∑ n, if lo ≤ rank f n ∧ rank f n < lo + 67 then g (f n) else 0)
      = ∑ p : Fin 67, g (f (σ ⟨lo + p, by omega⟩)) := by
  have e1 : ∀ n, (if lo ≤ rank f n ∧ rank f n < lo + 67 then g (f n) else 0)
      = (fun i : Fin 201 => if lo ≤ i.val ∧ i.val < lo + 67 then g (f (σ i)) else 0) (rankPerm f n) := by
    intro n
    show _ = if lo ≤ rank f n ∧ rank f n < lo + 67 then g (f (σ (rankPerm f n))) else 0
    rw [sorted_at_rank f σ hσ hm]
  rw [Finset.sum_congr rfl fun n _ => e1 n, Equiv.sum_comp (rankPerm f) (fun i : Fin 201 => if lo ≤ i.val ∧ i.val < lo + 67 then g (f (σ i)) else 0), ← Finset.sum_filter]
  refine (Finset.sum_bij (fun (p : Fin 67) _ => (⟨lo + p, by omega⟩ : Fin 201)) ?_ ?_ ?_ ?_).symm
  · intro p _
    simp only [Finset.mem_filter, Finset.mem_univ, true_and]
    omega
  · intro p _ q _ h
    simpa [Fin.ext_iff] using h
  · intro i hi
    simp only [Finset.mem_filter, Finset.mem_univ, true_and] at hi
    exact ⟨⟨i.val - lo, by omega⟩, Finset.mem_univ _, Fin.ext (by simp; omega)⟩
  · intro p _; rfl

end Cert.Ranks

end
-- ==== Proof.Groups.lean ====
/- The score of one group of a row: its mean over its deviation, from the group's entries, and from the whole row with a
   0/1 weight on each entry. -/
module

public import proofs.«01_k».proof.Proof.Ranks

@[expose] public section

noncomputable section

namespace Cert.Groups

open Idealize.ShloMosaic
open Cert.Ranks

/-- The mean of a group, from its sum. -/
def mean (t : EReal) : EReal := Ideal.div t (Ideal.ofBits .f32 1116078080#32)

/-- The score, from the mean and the sum of squared deviations. -/
def score (μ q : EReal) : EReal :=
  Ideal.div μ (Ideal.sqrt (Ideal.div q (Ideal.ofBits .f32 1115947008#32)) + Ideal.ofBits .f32 897988541#32)

/-- The score of the 67 entries of a group. -/
def scoreOf (g : Fin 67 → EReal) : EReal :=
  score (mean (∑ p, g p)) (∑ p, (g p - mean (∑ p, g p)) * (g p - mean (∑ p, g p)))

/-- The score of the entries of a row that a weight picks. -/
def scoreW {N : ℕ} (f w : Fin N → EReal) : EReal :=
  score (mean (∑ n, f n * w n)) (∑ n, (f n - mean (∑ n, f n * w n)) * w n * ((f n - mean (∑ n, f n * w n)) * w n))

/-- Weighing by "the rank lies in the group" scores the sorted entries of the group. -/
theorem scoreW_eq (f : Fin 201 → EReal) (σ : Fin 201 → Fin 201) (hσ : Function.Bijective σ) (hm : Monotone (f ∘ σ)) (lo : ℕ) (hlo : lo + 67 ≤ 201)
    (w : Fin 201 → EReal) (hw : ∀ n, w n = if lo ≤ rank f n ∧ rank f n < lo + 67 then 1 else 0) :
    scoreW f w = scoreOf fun p => f (σ ⟨lo + p, by omega⟩) := by
  have e : ∀ g : EReal → EReal, (∑ n, (if lo ≤ rank f n ∧ rank f n < lo + 67 then g (f n) else 0)) = ∑ p : Fin 67, g (f (σ ⟨lo + p, by omega⟩)) :=
    sum_range f σ hσ hm lo hlo
  have e1 : ∑ n, f n * w n = ∑ p : Fin 67, f (σ ⟨lo + p, by omega⟩) := by
    rw [← e fun y => y]
    refine Finset.sum_congr rfl fun n _ => ?_
    rw [hw n]; split <;> simp
  unfold scoreW scoreOf
  rw [e1]
  generalize mean (∑ p : Fin 67, f (σ ⟨lo + p, by omega⟩)) = μ
  congr 1
  rw [← e fun y => (y - μ) * (y - μ)]
  refine Finset.sum_congr rfl fun n _ => ?_
  rw [hw n]; split <;> simp

end Cert.Groups

end
-- ==== Proof.StageB.lean ====
module

public import proofs.«01_k».proof.Proof.Gen.KernelIdeal.Frame
public import proofs.«01_k».proof.Proof.Groups
public import Idealize.ShloMosaic.Lib.Pointwise
public import Idealize.ShloMosaic.Lib.Pipeline.ValueKit

@[expose] public section

set_option maxRecDepth 65536

noncomputable section

namespace Cert.KernelIdeal.StageB

open Idealize.ShloMosaic Idealize.ShloMosaic.TcCoe
open Cert.KernelIdeal Cert.KernelIdeal.Gen

open Cert.Ranks Cert.Groups

variable (x : Vec Ideal S32x201 .f32)

/-- A flag per position of "comes before", as a word. -/
theorem before_word (f : Fin 201 → EReal) (k n : Fin 201) :
    BitVec.setWidth 32 (IntOp.ori (BitVec.ofBool (decide (f k < f n)))
      (IntOp.andi (BitVec.ofBool (decide (f k = f n))) (IntOp.cmpi CmpIPredicate.slt (BitVec.ofNat 32 k) (BitVec.ofNat 32 n))))
      = if Before f k n then 1#32 else 0#32 := by
  have h : IntOp.cmpi CmpIPredicate.slt (BitVec.ofNat 32 k) (BitVec.ofNat 32 n) = BitVec.ofBool (decide (k < n)) := by
    revert k n; decide +kernel
  rw [h]
  unfold Before
  by_cases h1 : f k < f n <;> by_cases h2 : f k = f n <;> by_cases h3 : k < n <;> simp [h1, h2, h3] <;> rfl

/-- Adding the flags of a set counts it. -/
theorem count_word {N : ℕ} (P : Fin N → Prop) [DecidablePred P] (s : Finset (Fin N)) :
    Finset.fold IntOp.addi (0#32) (fun k => if P k then 1#32 else 0#32) s = BitVec.ofNat 32 (s.filter P).card := by
  classical
  induction s using Finset.induction_on with
  | empty => rfl
  | insert a s ha ih =>
    rw [Finset.fold_insert ha, ih, Finset.filter_insert]
    by_cases h : P a
    · rw [if_pos h, if_pos h, Finset.card_insert_of_notMem (by simp [ha])]
      show 1#32 + _ = _
      rw [BitVec.ofNat_add]
      exact BitVec.add_comm _ _
    · rw [if_neg h, if_neg h]
      show 0#32 + _ = _
      simp

/-- The row of a block. -/
abbrev row (b : Fin 32) : Fin 201 → EReal := fun n => x (ix2 b n)

/-- The kernel's rank word of an entry is its rank. -/
theorem rank_at (b : Fin 32) (n : Fin 201) : k1_pay2 x (ix2 b n) = BitVec.ofNat 32 (rank (row x b) n) := by
  have h : k1_pay2 x (ix2 b n) = Finset.fold IntOp.addi (0#32)
      (fun k => BitVec.setWidth 32 (IntOp.ori (BitVec.ofBool (decide (row x b k < row x b n)))
        (IntOp.andi (BitVec.ofBool (decide (row x b k = row x b n))) (IntOp.cmpi CmpIPredicate.slt (BitVec.ofNat 32 k) (BitVec.ofNat 32 n))))) Finset.univ := by
    pointwise [k1_pay2, k1_pay1]
  rw [h]
  simp only [before_word]
  exact count_word _ _

/-- A group's flag on a rank, as a weight. -/
def weight (lo hi : BitVec 32) (r : BitVec 32) : EReal :=
  (FloatOps.sitofp .f32 (BitVec.setWidth 32 (IntOp.andi (IntOp.cmpi CmpIPredicate.sge r lo) (IntOp.cmpi CmpIPredicate.slt r hi))) : Ideal .f32)

theorem weight_eq (lo hi : BitVec 32) (l h : ℕ)
    (hd : ∀ r : Fin 201, BitVec.setWidth 32 (IntOp.andi (IntOp.cmpi CmpIPredicate.sge (BitVec.ofNat 32 r) lo) (IntOp.cmpi CmpIPredicate.slt (BitVec.ofNat 32 r) hi))
      = if l ≤ r.val ∧ r.val < h then 1#32 else 0#32) (r : ℕ) (hr : r < 201) :
    weight lo hi (BitVec.ofNat 32 r) = if l ≤ r ∧ r < h then 1 else 0 := by
  unfold weight
  rw [hd ⟨r, hr⟩]
  split
  · show ((((1#32 : BitVec 32).toInt : ℝ)) : EReal) = 1
    norm_num
  · show ((((0#32 : BitVec 32).toInt : ℝ)) : EReal) = 0
    norm_num

/-- The three columns, from any rank words. -/
theorem col0 (b : Fin 32) : k1_pay3 x (ix2 b 0) = scoreW (row x b) fun n => weight 0#32 67#32 (k1_pay2 x (ix2 b n)) := by
  unfold k1_pay3
  generalize k1_pay2 x = rk
  pointwise [k1_pay1, scoreW, score, mean, weight]

theorem col1 (b : Fin 32) (v : FVec Ideal S32x1 .f32) :
    k1_pay5 (k1_pay1 x) (k1_pay2 x) v (k1_pay4 x) (ix2 b 1) = scoreW (row x b) fun n => weight 67#32 134#32 (k1_pay2 x (ix2 b n)) := by
  unfold k1_pay4
  generalize k1_pay2 x = rk
  pointwise [k1_pay5, k1_pay1, scoreW, score, mean, weight]

theorem col2 (b : Fin 32) (v : FVec Ideal S32x1 .f32) (w : IVec S32x201 32) :
    k1_pay5 (k1_pay1 x) (k1_pay2 x) v w (ix2 b 2) = scoreW (row x b) fun n => weight 134#32 201#32 (k1_pay2 x (ix2 b n)) := by
  generalize k1_pay2 x = rk
  pointwise [k1_pay5, k1_pay1, scoreW, score, mean, weight]

theorem col0' (b : Fin 32) (v1 : FVec Ideal S32x201 .f32) (rk w : IVec S32x201 32) (v : FVec Ideal S32x1 .f32) :
    k1_pay5 v1 rk v w (ix2 b 0) = v (ix2 b 0) := by
  pointwise [k1_pay5]

/-- What the second kernel leaves for a sample and a group: the score of the group of the sorted row. -/
theorem out_at (b : Fin 32) (j : Fin 3) (σ : Fin 201 → Fin 201) (hσ : Function.Bijective σ) (hm : Monotone (row x b ∘ σ)) :
    out1_1 x (ix2 b j) = scoreOf fun p => row x b (σ ⟨67 * j.val + p, by omega⟩) := by
  have h0 : k1_pay5 (k1_pay1 x) (k1_pay2 x) (k1_pay3 x) (k1_pay4 x) (ix2 b 0) = scoreOf fun p => row x b (σ ⟨67 * 0 + p, by omega⟩) := by
    rw [col0', col0]
    refine scoreW_eq _ σ hσ hm _ (by omega) _ fun n => ?_
    rw [rank_at]
    exact weight_eq _ _ _ _ (by decide +kernel) _ (rank_lt _ n)
  have h1 : k1_pay5 (k1_pay1 x) (k1_pay2 x) (k1_pay3 x) (k1_pay4 x) (ix2 b 1) = scoreOf fun p => row x b (σ ⟨67 * 1 + p, by omega⟩) := by
    rw [col1]
    refine scoreW_eq _ σ hσ hm _ (by omega) _ fun n => ?_
    rw [rank_at]
    exact weight_eq _ _ _ _ (by decide +kernel) _ (rank_lt _ n)
  have h2 : k1_pay5 (k1_pay1 x) (k1_pay2 x) (k1_pay3 x) (k1_pay4 x) (ix2 b 2) = scoreOf fun p => row x b (σ ⟨67 * 2 + p, by omega⟩) := by
    rw [col2]
    refine scoreW_eq _ σ hσ hm _ (by omega) _ fun n => ?_
    rw [rank_at]
    exact weight_eq _ _ _ _ (by decide +kernel) _ (rank_lt _ n)
  have hk : out1_1 x (ix2 b j) = k1_pay5 (k1_pay1 x) (k1_pay2 x) (k1_pay3 x) (k1_pay4 x) (ix2 b j) := by
    unfold out1_1
    frame_out
  rw [hk]
  match j with
  | 0 => exact h0
  | 1 => exact h1
  | 2 => exact h2

end Cert.KernelIdeal.StageB

end
-- ==== Proof.ArrayB.lean ====
/- The second kernel's result array after its grid, over the argument arrays. -/
module

public import proofs.«01_k».proof.Proof.ArrayA
public import proofs.«01_k».proof.Proof.StageB
public import Idealize.ShloMosaic.Lib.Claim

@[expose] public section

set_option maxRecDepth 65536

noncomputable section

namespace Cert.KernelIdeal.StageB

open Idealize.ShloMosaic Idealize.ShloMosaic.TcCoe Idealize.SL.Sem
open Idealize.ShloMosaic.Pipeline (Dat)
open Cert.KernelIdeal Cert.KernelIdeal.Gen
open Cert.Groups
open Cert.KernelIdeal.StageA (X0 X1 sim)

/-- Where each window's block sits at a grid point. -/
theorem idx : ∀ t : Fin cfg1.N, win1_0.index t = ![t.val, 0] ∧ win1_1.index t = ![t.val, 0] :=
  (by decide +kernel : ∀ t : Fin grid1.N, _)

variable (m : (ℓ : Loc nD τ sig) → Buf (Elt Ideal) ℓ) (ρ : Dev nD → PrngReg)

/-- The similarities as the second kernel finds them. -/
theorem V2_sims (c : Dev nD) (b : Fin 1024) (n : Fin 201) :
    (V2 m ρ c main_v12_1 : FVec Ideal S1024x201 .f32) (ix2 b n) = sim (X0 m c) (X1 m c) b n :=
  congrFun ((W2_arr m ρ c 9).trans (Cert.KernelIdeal.StageA.sims m ρ c)) (ix2 b n)

/-- The sample that row `r` of block `t` is. -/
def smp (t : Fin cfg1.N) (r : Fin 32) : Fin 1024 :=
  ⟨t.val * 32 + r.val, by have h1 : t.val < 32 := t.isLt; have h2 := r.isLt; omega⟩

theorem blk_sims (c : Dev nD) (t : Fin cfg1.N) (r : Fin 32) (n : Fin 201) :
    (iblk1 (V2 m ρ) c 0 t : FVec Ideal S32x201 .f32) (ix2 r n) = sim (X0 m c) (X1 m c) (smp t r) n := by
  rw [← V2_sims m ρ c]
  blk_ext [iblk1, idx t, smp]

/-- The score of a sample's group, by an order of the sample's similarities. -/
def clusterScore (x0 : FVec Ideal S1024x256 .f32) (x1 : FVec Ideal S1024x201x256 .f32) (σ : Fin 1024 → Fin 201 → Fin 201)
    (b : Fin 1024) (j : Fin 3) : EReal :=
  scoreOf fun p => sim x0 x1 b (σ b ⟨67 * j.val + p, by omega⟩)

/-- The second kernel leaves the cluster scores, whatever ascending order of each row they are read in. -/
theorem clusters (c : Dev nD) (σ : Fin 1024 → Fin 201 → Fin 201) (hσ : ∀ b, Function.Bijective (σ b))
    (hm : ∀ b, Monotone (sim (X0 m c) (X1 m c) b ∘ σ b)) :
    ((dat1 (V2 m ρ) c).arrAt 1 cfg1.N : FVec Ideal S1024x3 .f32)
      = fun i => clusterScore (X0 m c) (X1 m c) σ (i 0) (i 1) := by
  refine (dat1 (V2 m ρ) c).arrAt_eq_of_covers 1 _ (by decide +kernel) fun t _ y => ?_
  blk_simp [idx t]
  rw [after1_1]
  have hy : y = ix2 (y 0 : Fin 32) (y 1 : Fin 3) := by blk_ext
  have ha : (((win1_1.blk t).view.emb y 0 : Fin 1024)) = smp t (y 0) := by
    apply Fin.ext; blk_simp [idx t, smp]
  have hb : (((win1_1.blk t).view.emb y 1 : Fin 3)) = (y 1 : Fin 3) := by
    apply Fin.ext; blk_simp [idx t]
  refine Eq.trans ?_ (congrArg₂ (clusterScore (X0 m c) (X1 m c) σ) ha hb).symm
  refine Eq.trans (congrArg _ hy) ?_
  have key : ∀ (r : Fin 32) (j : Fin 3), (out1_1 (iblk1 (V2 m ρ) c 0 t) : FVec Ideal S32x3 .f32) (ix2 r j)
      = clusterScore (X0 m c) (X1 m c) σ (smp t r) j := by
    intro r j
    have hr : row (iblk1 (V2 m ρ) c 0 t) r = sim (X0 m c) (X1 m c) (smp t r) := funext fun n => blk_sims m ρ c t r n
    refine (out_at _ r j (σ (smp t r)) (hσ _) (hr ▸ hm (smp t r))).trans ?_
    rw [hr]
    rfl
  exact key (y 0) (y 1)

end Cert.KernelIdeal.StageB

end
-- ==== Proof.RefClusters.lean ====
/- The reference's cluster scores: each row sorted, cut in three, and each group scored. -/
module

public import proofs.«01_k».proof.Proof.Gen.ReferenceIdeal.Run
public import proofs.«01_k».proof.Proof.ArrayB
public import proofs.«01_k».proof.Proof.Groups
public import Idealize.ShloMosaic.Lib.SortFacts
public import Idealize.ShloMosaic.Lib.Pointwise
public import Idealize.ShloMosaic.Lib.Pipeline.ValueKit

@[expose] public section

set_option maxRecDepth 65536

noncomputable section

namespace Cert.ReferenceIdeal.Point

open Idealize.ShloMosaic Idealize.ShloMosaic.TcCoe
open Cert.ReferenceIdeal Cert.ReferenceIdeal.Gen Cert.ReferenceIdeal.Value

open Cert.Groups
open Cert.KernelIdeal.StageA (sim)

variable (V0 : Idealize.ShloMosaic.Valuation τ sig (Elt Ideal))

/-- The similarities the reference sorts. -/
def simsR : FVec Ideal S1024x201 .f32 :=
  (Host.divf (Host.reduceAdd (mulf (broadcastInDim S1024x201x256 ![0, 1, 2] bcast_S1024x1x256_S1024x201x256_0_1_2 (res_main_v0 V0)) (V0 (Proc.devRef .tc main_arg1))) (constant S_ .f32 0x00000000#32) reducesTo_S1024x201x256_S1024x201_d2 h_S_) (maximumf (mulf (broadcastInDim S1024x201 ![0, 1] bcast_S1024x1_S1024x201_0_1 (Host.sqrt (Host.reduceAdd (mulf (res_main_v0 V0) (res_main_v0 V0)) (constant S_ .f32 0x00000000#32) reducesTo_S1024x1x256_S1024x1_d2 h_S_))) (Host.sqrt (Host.reduceAdd (mulf (V0 (Proc.devRef .tc main_arg1)) (V0 (Proc.devRef .tc main_arg1))) (constant S_ .f32 0x00000000#32) reducesTo_S1024x201x256_S1024x201_d2 h_S_))) (broadcastInDim S1024x201 ![] bcast_S_S1024x201 (constant S_ .f32 0x322BCC77#32))))

theorem v15_eq : (res_main_v15 V0 : FVec Ideal S1024x201 .f32) = Host.sort S1024x201 1 comparator_f32_d1 (simsR V0) := rfl

theorem simsR_at (b : Fin 1024) (n : Fin 201) :
    simsR V0 (ix2 b n) = sim (V0 (Proc.devRef .tc main_arg0) : FVec Ideal S1024x256 .f32) (V0 (Proc.devRef .tc main_arg1) : FVec Ideal S1024x201x256 .f32) b n := by
  pointwise [simsR, res_main_v0, sim]

/-- The comparator orders by the number alone. -/
theorem comparator_eq (l r : Ideal .f32) : comparator_f32_d1 l r = BitVec.ofBool (decide ((l : EReal) < r)) := by
  have z : ∀ y : Ideal .f32, Scalar.select (FloatOps.cmpf .une y y) (FloatOps.ofBits (F := Ideal) .f32 0x7FC00000#32)
      (Scalar.select (FloatOps.cmpf .oeq y (FloatOps.ofBits (F := Ideal) .f32 0x00000000#32)) (FloatOps.ofBits (F := Ideal) .f32 0x00000000#32) y) = y := by
    intro y
    have h1 : FloatOps.cmpf .une y y = (0#1 : BitVec 1) := by
      show Ideal.cmp .une (y : EReal) y = 0#1
      simp [Ideal.cmp]
    rw [h1]
    show Scalar.select (FloatOps.cmpf .oeq y (FloatOps.ofBits (F := Ideal) .f32 0x00000000#32)) (FloatOps.ofBits (F := Ideal) .f32 0x00000000#32) y = y
    by_cases h : (y : EReal) = Ideal.ofBits .f32 0x00000000#32
    · have h2 : FloatOps.cmpf .oeq y (FloatOps.ofBits (F := Ideal) .f32 0x00000000#32) = (1#1 : BitVec 1) := by
        show Ideal.cmp .oeq (y : EReal) (Ideal.ofBits .f32 0x00000000#32) = 1#1
        simp [Ideal.cmp, h]
      rw [h2]
      exact h.symm
    · have h2 : FloatOps.cmpf .oeq y (FloatOps.ofBits (F := Ideal) .f32 0x00000000#32) = (0#1 : BitVec 1) := by
        show BitVec.ofBool (decide ((y : EReal) = Ideal.ofBits .f32 0x00000000#32)) = 0#1
        rw [decide_eq_false h]
        rfl
      rw [h2]
      rfl
  show FloatOps.cmpfTotal .lt
      (Scalar.select (FloatOps.cmpf .une l l) (FloatOps.ofBits (F := Ideal) .f32 0x7FC00000#32)
        (Scalar.select (FloatOps.cmpf .oeq l (FloatOps.ofBits (F := Ideal) .f32 0x00000000#32)) (FloatOps.ofBits (F := Ideal) .f32 0x00000000#32) l))
      (Scalar.select (FloatOps.cmpf .une r r) (FloatOps.ofBits (F := Ideal) .f32 0x7FC00000#32)
        (Scalar.select (FloatOps.cmpf .oeq r (FloatOps.ofBits (F := Ideal) .f32 0x00000000#32)) (FloatOps.ofBits (F := Ideal) .f32 0x00000000#32) r)) = _
  rw [z l, z r]
  rfl

/-- The order in which a row is sorted. -/
def order (f : Fin 201 → EReal) : Fin 201 → Fin 201 := sortedFrom fun k k' => decide (f k < f k')

theorem order_bijective (f : Fin 201 → EReal) : Function.Bijective (order f) :=
  ⟨sortedFrom_injective _, sortedFrom_surjective _⟩

theorem order_monotone (f : Fin 201 → EReal) : Monotone (f ∘ order f) := by
  intro i j hij
  rcases eq_or_lt_of_le hij with h | h
  · rw [h]
  · have := sortedFrom_noInversion (fun k k' => decide (f k < f k')) (fun k k' => decide (f k < f k'))
      (fun a b e => by simp only [decide_eq_true_eq, decide_eq_false_iff_not] at e ⊢; exact not_lt.mpr e.le) (fun a b e => e)
      (fun a b c e e' => by simp only [decide_eq_false_iff_not, not_lt] at e e' ⊢; exact e'.trans e) i j h
    exact not_lt.mp (of_decide_eq_false this)

/-- Sorting the rows reads each row in its order. -/
theorem sort_at (x : FVec Ideal S1024x201 .f32) (b : Fin 1024) (i : Fin 201) :
    Host.sort S1024x201 1 comparator_f32_d1 x (ix2 b i) = x (ix2 b (order (fun n => x (ix2 b n)) i)) := by
  have hl : ∀ k : Fin 201, (ix2 b i : S1024x201.Idx).along (1 : Fin 2) k = ix2 b k := by
    intro k
    funext a
    match a with
    | 0 => rfl
    | 1 => rfl
  refine (congrArg x (hl _)).trans ?_
  refine congrArg (fun q => x (ix2 b q)) ?_
  refine congrArg (fun R => sortedFrom R i) ?_
  funext k k'
  refine (congrArg₂ (fun p q => comparator_f32_d1 (x p) (x q) == 1#1) (hl k) (hl k')).trans ?_
  show (comparator_f32_d1 (x (ix2 b k)) (x (ix2 b k')) == 1#1) = decide ((x (ix2 b k) : EReal) < x (ix2 b k'))
  rw [comparator_eq]
  cases decide ((x (ix2 b k) : EReal) < x (ix2 b k')) <;> rfl

/-- The sorted similarities. -/
theorem sorted_at (b : Fin 1024) (i : Fin 201) :
    (res_main_v15 V0 : FVec Ideal S1024x201 .f32) (ix2 b i)
      = sim (V0 (Proc.devRef .tc main_arg0) : FVec Ideal S1024x256 .f32) (V0 (Proc.devRef .tc main_arg1) : FVec Ideal S1024x201x256 .f32) b
          (order (sim (V0 (Proc.devRef .tc main_arg0) : FVec Ideal S1024x256 .f32) (V0 (Proc.devRef .tc main_arg1) : FVec Ideal S1024x201x256 .f32) b) i) := by
  rw [v15_eq, sort_at]
  have h : (fun n => simsR V0 (ix2 b n)) = sim (V0 (Proc.devRef .tc main_arg0) : FVec Ideal S1024x256 .f32) (V0 (Proc.devRef .tc main_arg1) : FVec Ideal S1024x201x256 .f32) b :=
    funext fun n => simsR_at V0 b n
  rw [h, simsR_at]

theorem sixty_six : Ideal.ofBits FTy.f32 1116078080#32 - (FloatOps.sitofp FTy.f32 1#32 : Ideal .f32) = Ideal.ofBits FTy.f32 1115947008#32 := by
  have h1 : Ideal.ofBits FTy.f32 1116078080#32 = ((67 : ℝ) : EReal) := by
    simp [Ideal.ofBits, Ideal.ieee, -EReal.coe_mul]; norm_num
  have h2 : Ideal.ofBits FTy.f32 1115947008#32 = ((66 : ℝ) : EReal) := by
    simp [Ideal.ofBits, Ideal.ieee, -EReal.coe_mul]; norm_num
  have h3 : (FloatOps.sitofp FTy.f32 1#32 : Ideal .f32) = ((1 : ℝ) : EReal) := by
    show ((((1#32 : BitVec 32).toInt : ℝ)) : EReal) = ((1 : ℝ) : EReal)
    norm_num
  rw [h1, h2, h3, ← EReal.coe_sub]
  norm_num

theorem sixty_six_pos : (0 : EReal) < Ideal.ofBits FTy.f32 1115947008#32 := by
  have h2 : Ideal.ofBits FTy.f32 1115947008#32 = ((66 : ℝ) : EReal) := by
    simp [Ideal.ofBits, Ideal.ieee, -EReal.coe_mul]; norm_num
  rw [h2]
  exact_mod_cast (by norm_num : (0 : ℝ) < 66)

/-- The scores, as the reference composes them. -/
def scoresT : FVec Ideal S1024x3 .f32 :=
  Host.divf ((concatenate S1024x3 1 [⟨S1024x1, ((broadcastInDim S1024x1 ![0] bcast_S1024_S1024x1_0 (Host.divf (Host.reduceAdd (res_main_v16 V0) (constant S_ .f32 0x00000000#32) reducesTo_S1024x67_S1024_d1 h_S_) (broadcastInDim S1024 ![] bcast_S_S1024 (constant S_ .f32 0x42860000#32)))) : (⟨S1024x1, .f32⟩ : BufTy).Contents (Elt Ideal))⟩, ⟨S1024x1, ((broadcastInDim S1024x1 ![0] bcast_S1024_S1024x1_0 (Host.divf (Host.reduceAdd (res_main_v17 V0) (constant S_ .f32 0x00000000#32) reducesTo_S1024x67_S1024_d1 h_S_) (broadcastInDim S1024 ![] bcast_S_S1024 (constant S_ .f32 0x42860000#32)))) : (⟨S1024x1, .f32⟩ : BufTy).Contents (Elt Ideal))⟩, ⟨S1024x1, ((broadcastInDim S1024x1 ![0] bcast_S1024_S1024x1_0 (Host.divf (Host.reduceAdd (res_main_v18 V0) (constant S_ .f32 0x00000000#32) reducesTo_S1024x67_S1024_d1 h_S_) (broadcastInDim S1024 ![] bcast_S_S1024 (constant S_ .f32 0x42860000#32)))) : (⟨S1024x1, .f32⟩ : BufTy).Contents (Elt Ideal))⟩] concatenates_S1024x1_S1024x1_S1024x1_S1024x3_d1 : (⟨S1024x3, .f32⟩ : BufTy).Contents (Elt Ideal))) (addf ((concatenate S1024x3 1 [⟨S1024x1, ((broadcastInDim S1024x1 ![0] bcast_S1024_S1024x1_0 (Host.sqrt (select (broadcastInDim S1024 ![] bcast_S_S1024 (cmpf .ogt (res_main_call1_call0_v8 V0) (constant S_ .f32 0x00000000#32))) (Host.divf (Host.reduceAdd (mulf (res_main_call1_call0_v5 V0) (res_main_call1_call0_v5 V0)) (constant S_ .f32 0x00000000#32) reducesTo_S1024x67_S1024_d1 h_S_) (broadcastInDim S1024 ![] bcast_S_S1024 (res_main_call1_call0_v8 V0))) (broadcastInDim S1024 ![] bcast_S_S1024 (id (constant S_ .f32 0x7FC00000#32)))))) : (⟨S1024x1, .f32⟩ : BufTy).Contents (Elt Ideal))⟩, ⟨S1024x1, ((broadcastInDim S1024x1 ![0] bcast_S1024_S1024x1_0 (Host.sqrt (select (broadcastInDim S1024 ![] bcast_S_S1024 (cmpf .ogt (res_main_call2_call0_v8 V0) (constant S_ .f32 0x00000000#32))) (Host.divf (Host.reduceAdd (mulf (res_main_call2_call0_v5 V0) (res_main_call2_call0_v5 V0)) (constant S_ .f32 0x00000000#32) reducesTo_S1024x67_S1024_d1 h_S_) (broadcastInDim S1024 ![] bcast_S_S1024 (res_main_call2_call0_v8 V0))) (broadcastInDim S1024 ![] bcast_S_S1024 (id (constant S_ .f32 0x7FC00000#32)))))) : (⟨S1024x1, .f32⟩ : BufTy).Contents (Elt Ideal))⟩, ⟨S1024x1, ((broadcastInDim S1024x1 ![0] bcast_S1024_S1024x1_0 (Host.sqrt (select (broadcastInDim S1024 ![] bcast_S_S1024 (cmpf .ogt (res_main_call3_call0_v8 V0) (constant S_ .f32 0x00000000#32))) (Host.divf (Host.reduceAdd (mulf (res_main_call3_call0_v5 V0) (res_main_call3_call0_v5 V0)) (constant S_ .f32 0x00000000#32) reducesTo_S1024x67_S1024_d1 h_S_) (broadcastInDim S1024 ![] bcast_S_S1024 (res_main_call3_call0_v8 V0))) (broadcastInDim S1024 ![] bcast_S_S1024 (id (constant S_ .f32 0x7FC00000#32)))))) : (⟨S1024x1, .f32⟩ : BufTy).Contents (Elt Ideal))⟩] concatenates_S1024x1_S1024x1_S1024x1_S1024x3_d1 : (⟨S1024x3, .f32⟩ : BufTy).Contents (Elt Ideal))) (broadcastInDim S1024x3 ![] bcast_S_S1024x3 (constant S_ .f32 0x358637BD#32)))

theorem score0 (b : Fin 1024) : scoresT V0 (ix2 b 0) = scoreOf fun p => (res_main_v15 V0 : FVec Ideal S1024x201 .f32) (ix2 b ⟨67 * 0 + p, by omega⟩) := by
  unfold scoresT res_main_call1_call0_v5 res_main_call1_call0_v8 res_main_v16
  generalize (res_main_v15 V0 : FVec Ideal S1024x201 .f32) = s
  pointwise [scoreOf, score, mean]
  rw [sixty_six, if_pos sixty_six_pos]

theorem score1 (b : Fin 1024) : scoresT V0 (ix2 b 1) = scoreOf fun p => (res_main_v15 V0 : FVec Ideal S1024x201 .f32) (ix2 b ⟨67 * 1 + p, by omega⟩) := by
  unfold scoresT res_main_call2_call0_v5 res_main_call2_call0_v8 res_main_v17
  generalize (res_main_v15 V0 : FVec Ideal S1024x201 .f32) = s
  pointwise [scoreOf, score, mean]
  rw [sixty_six, if_pos sixty_six_pos]

theorem score2 (b : Fin 1024) : scoresT V0 (ix2 b 2) = scoreOf fun p => (res_main_v15 V0 : FVec Ideal S1024x201 .f32) (ix2 b ⟨67 * 2 + p, by omega⟩) := by
  unfold scoresT res_main_call3_call0_v5 res_main_call3_call0_v8 res_main_v18
  generalize (res_main_v15 V0 : FVec Ideal S1024x201 .f32) = s
  pointwise [scoreOf, score, mean]
  rw [sixty_six, if_pos sixty_six_pos]

/-- The reference's cluster scores: each row's groups, in the order the reference sorts the row. -/
theorem clusters :
    scoresT V0 = fun i => Cert.KernelIdeal.StageB.clusterScore (V0 (Proc.devRef .tc main_arg0) : FVec Ideal S1024x256 .f32)
      (V0 (Proc.devRef .tc main_arg1) : FVec Ideal S1024x201x256 .f32)
      (fun b => order (sim (V0 (Proc.devRef .tc main_arg0) : FVec Ideal S1024x256 .f32) (V0 (Proc.devRef .tc main_arg1) : FVec Ideal S1024x201x256 .f32) b)) (i 0) (i 1) := by
  have key : ∀ (b : Fin 1024) (j : Fin 3), scoresT V0 (ix2 b j)
      = scoreOf fun p => (res_main_v15 V0 : FVec Ideal S1024x201 .f32) (ix2 b ⟨67 * j.val + p, by omega⟩) := by
    intro b j
    match j with
    | 0 => exact score0 V0 b
    | 1 => exact score1 V0 b
    | 2 => exact score2 V0 b
  funext i
  have hi : i = ix2 (i 0 : Fin 1024) (i 1 : Fin 3) := by blk_ext
  refine (congrArg _ hi).trans ((key (i 0) (i 1)).trans ?_)
  exact congrArg scoreOf (funext fun p => sorted_at V0 (i 0) _)

/-- The same, over names for the two arguments. -/
theorem clusters_of (x0 : FVec Ideal S1024x256 .f32) (x1 : FVec Ideal S1024x201x256 .f32)
    (e0 : (V0 (Proc.devRef .tc main_arg0) : FVec Ideal S1024x256 .f32) = x0) (e1 : (V0 (Proc.devRef .tc main_arg1) : FVec Ideal S1024x201x256 .f32) = x1) :
    scoresT V0 = fun i => Cert.KernelIdeal.StageB.clusterScore x0 x1 (fun b => order (sim x0 x1 b)) (i 0) (i 1) := by
  subst e0
  subst e1
  exact clusters V0

end Cert.ReferenceIdeal.Point

end
-- ==== Proof.Hardest.lean ====
/- The hardest negatives: the five largest of a list that holds each number twice, from the three largest of the list
   that holds each once. -/
module

public import Idealize.ShloMosaic.Lib.Pointwise

@[expose] public section

noncomputable section

namespace Cert.Hardest

open Idealize.ShloMosaic

/-- How many entries reach `v`. -/
def count {N : ℕ} (g : Fin N → EReal) (v : EReal) : ℕ := (Finset.univ.filter fun k => v ≤ g k).card

/-- Read in descending order, the entry at place `p` reaches `v` exactly when more than `p` entries do. -/
theorem le_place {N : ℕ} (d : Fin N → EReal) (σ : Fin N → Fin N) (hσ : Function.Bijective σ) (hm : Antitone (d ∘ σ)) (p : Fin N) (v : EReal) :
    v ≤ d (σ p) ↔ p.val + 1 ≤ count d v := by
  have hc : count d v = (Finset.univ.filter fun q => v ≤ d (σ q)).card := by
    refine (Finset.card_bij (fun q _ => σ q) (fun q hq => by simpa using hq) (fun a _ b _ e => hσ.1 e) (fun k hk => ?_)).symm
    obtain ⟨q, rfl⟩ := hσ.2 k
    exact ⟨q, by simpa using hk, rfl⟩
  rw [hc]
  constructor
  · intro h
    have : (Finset.Iic p).card ≤ (Finset.univ.filter fun q => v ≤ d (σ q)).card := by
      refine Finset.card_le_card fun q hq => ?_
      simp only [Finset.mem_filter, Finset.mem_univ, true_and]
      exact h.trans (hm (Finset.mem_Iic.mp hq))
    rwa [Fin.card_Iic] at this
  · intro h
    by_contra hn
    have : (Finset.univ.filter fun q => v ≤ d (σ q)).card ≤ (Finset.Iio p).card := by
      refine Finset.card_le_card fun q hq => ?_
      simp only [Finset.mem_filter, Finset.mem_univ, true_and] at hq
      rw [Finset.mem_Iio]
      by_contra hpq
      exact hn (hq.trans (hm (not_lt.mp hpq)))
    rw [Fin.card_Iio] at this
    omega

/-- The largest of a row. -/
def top {N : ℕ} (g : Fin N → EReal) : EReal := Finset.fold max ⊥ g Finset.univ

theorem le_top_iff {N : ℕ} (g : Fin N → EReal) (v : EReal) (hv : v ≠ ⊥) : v ≤ top g ↔ ∃ k, v ≤ g k := by
  unfold top
  rw [Finset.le_fold_max]
  constructor
  · rintro (h | ⟨k, _, h⟩)
    · exact absurd (le_bot_iff.mp h) hv
    · exact ⟨k, h⟩
  · rintro ⟨k, h⟩; exact Or.inr ⟨k, Finset.mem_univ _, h⟩

theorem le_top {N : ℕ} (g : Fin N → EReal) (k : Fin N) : g k ≤ top g := by
  unfold top
  rw [Finset.le_fold_max]
  exact Or.inr ⟨k, Finset.mem_univ _, le_rfl⟩

/-- The row with one place struck out. -/
def strike {N : ℕ} (g : Fin N → EReal) (i : Fin N) : Fin N → EReal := fun k => if k = i then ⊥ else g k

theorem count_bot {N : ℕ} (g : Fin N → EReal) : count g ⊥ = N := by simp [count]

/-- The largest reaches `v` when an entry does. -/
theorem first {N : ℕ} (g : Fin N → EReal) (hN : 1 ≤ N) (v : EReal) : v ≤ top g ↔ 1 ≤ count g v := by
  by_cases hv : v = ⊥
  · subst hv; rw [count_bot]; simp [hN]
  · rw [le_top_iff g v hv, count, Finset.one_le_card]
    constructor
    · rintro ⟨k, h⟩; exact ⟨k, by simpa using h⟩
    · rintro ⟨k, h⟩; exact ⟨k, by simpa using h⟩

/-- Striking out a largest entry leaves one entry fewer that reaches `v`. -/
theorem count_strike {N : ℕ} (g : Fin N → EReal) (i : Fin N) (hi : g i = top g) (v : EReal) (hv : v ≠ ⊥) :
    count (strike g i) v = count g v - 1 := by
  have hs : (Finset.univ.filter fun k => v ≤ strike g i k) = (Finset.univ.filter fun k => v ≤ g k).erase i := by
    ext k
    rw [Finset.mem_erase, Finset.mem_filter, Finset.mem_filter]
    unfold strike
    by_cases h : k = i
    · rw [if_pos h]
      exact ⟨fun e => absurd (le_bot_iff.mp e.2) hv, fun e => absurd h e.1⟩
    · rw [if_neg h]
      exact ⟨fun e => ⟨h, e⟩, fun e => e.2⟩
  unfold count
  rw [hs]
  by_cases h : v ≤ g i
  · exact Finset.card_erase_of_mem (by simpa using h)
  · have h0 : (Finset.univ.filter fun k => v ≤ g k) = ∅ := by
      ext k
      simp only [Finset.mem_filter, Finset.mem_univ, true_and, Finset.notMem_empty, iff_false]
      exact fun hk => h (hk.trans (hi ▸ le_top g k))
    rw [h0]; rfl

/-- The second largest reaches `v` when two entries do. -/
theorem second {N : ℕ} (g : Fin N → EReal) (hN : 2 ≤ N) (i : Fin N) (hi : g i = top g) (v : EReal) :
    v ≤ top (strike g i) ↔ 2 ≤ count g v := by
  by_cases hv : v = ⊥
  · subst hv; rw [count_bot]; simp [hN]
  · rw [first _ (by omega), count_strike g i hi v hv]; omega

/-- The third largest reaches `v` when three entries do. -/
theorem third {N : ℕ} (g : Fin N → EReal) (hN : 3 ≤ N) (i : Fin N) (hi : g i = top g) (j : Fin N)
    (hj : strike g i j = top (strike g i)) (v : EReal) :
    v ≤ top (strike (strike g i) j) ↔ 3 ≤ count g v := by
  by_cases hv : v = ⊥
  · subst hv; rw [count_bot]; simp [hN]
  · rw [first _ (by omega), count_strike _ j hj v hv, count_strike g i hi v hv]; omega

/-- Two numbers reached by the same numbers are equal. -/
theorem eq_of_reach {a b : EReal} (h : ∀ v, v ≤ a ↔ v ≤ b) : a = b := le_antisymm ((h a).mp le_rfl) ((h b).mpr le_rfl)

/-- The five largest of a list that holds every entry of `g` twice: the largest twice, the second twice, the third. -/
theorem five {N M : ℕ} (hM : 5 ≤ M) (hN : 3 ≤ N) (g : Fin N → EReal) (d : Fin M → EReal) (hd : ∀ v, count d v = 2 * count g v)
    (σ : Fin M → Fin M) (hσ : Function.Bijective σ) (hm : Antitone (d ∘ σ))
    (i j : Fin N) (hi : g i = top g) (hj : strike g i j = top (strike g i)) :
    d (σ ⟨0, by omega⟩) = top g ∧ d (σ ⟨1, by omega⟩) = top g ∧ d (σ ⟨2, by omega⟩) = top (strike g i)
      ∧ d (σ ⟨3, by omega⟩) = top (strike g i) ∧ d (σ ⟨4, by omega⟩) = top (strike (strike g i) j) := by
  refine ⟨eq_of_reach fun v => ?_, eq_of_reach fun v => ?_, eq_of_reach fun v => ?_, eq_of_reach fun v => ?_, eq_of_reach fun v => ?_⟩
  · rw [le_place d σ hσ hm, hd, first g (by omega)]; dsimp only; omega
  · rw [le_place d σ hσ hm, hd, first g (by omega)]; dsimp only; omega
  · rw [le_place d σ hσ hm, hd, second g (by omega) i hi]; dsimp only; omega
  · rw [le_place d σ hσ hm, hd, second g (by omega) i hi]; dsimp only; omega
  · rw [le_place d σ hσ hm, hd, third g (by omega) i hi j hj]; dsimp only; omega

/-- A row's largest is one of its entries. -/
theorem exists_top {N : ℕ} (hN : 1 ≤ N) (g : Fin N → EReal) : ∃ i, g i = top g := by
  by_cases h : top g = ⊥
  · exact ⟨⟨0, hN⟩, by rw [h]; exact le_bot_iff.mp (h ▸ le_top g _)⟩
  · obtain ⟨k, hk⟩ := (le_top_iff g (top g) h).mp le_rfl
    exact ⟨k, le_antisymm (le_top g k) hk⟩

/-- The place a smallest-index search gives: for words that are a place's index where a condition holds and a large word
    elsewhere, the least word is the index of a place where the condition holds. -/
theorem least_place (P : Fin 1024 → Prop) [DecidablePred P] (hP : ∃ k, P k) :
    ∃ i, P i ∧ Finset.fold IntOp.minsi (2147483647#32) (fun k : Fin 1024 => if P k then BitVec.ofNat 32 k.val else 1073741824#32) Finset.univ
      = BitVec.ofNat 32 i.val := by
  classical
  have hsel : ∀ a b : BitVec 32, IntOp.minsi a b = a ∨ IntOp.minsi a b = b := by
    intro a b; unfold IntOp.minsi; split <;> simp
  have hle : ∀ a b : BitVec 32, (IntOp.minsi a b).toInt ≤ a.toInt ∧ (IntOp.minsi a b).toInt ≤ b.toInt := by
    intro a b
    unfold IntOp.minsi
    split
    · rename_i h
      simp only [BitVec.slt, BitVec.sle, decide_eq_true_eq] at h
      constructor <;> omega
    · rename_i h
      simp only [BitVec.slt, BitVec.sle, decide_eq_true_eq] at h
      constructor <;> omega
  have main : ∀ s : Finset (Fin 1024), ∀ f : Fin 1024 → BitVec 32,
      (Finset.fold IntOp.minsi (2147483647#32) f s = 2147483647#32 ∨ ∃ k ∈ s, Finset.fold IntOp.minsi (2147483647#32) f s = f k)
      ∧ ∀ k ∈ s, (Finset.fold IntOp.minsi (2147483647#32) f s).toInt ≤ (f k).toInt := by
    intro s f
    induction s using Finset.induction_on with
    | empty => exact ⟨Or.inl rfl, fun k hk => absurd hk (Finset.notMem_empty k)⟩
    | insert a s ha ih =>
      rw [Finset.fold_insert ha]
      constructor
      · rcases hsel (f a) (Finset.fold IntOp.minsi (2147483647#32) f s) with h | h
        · exact Or.inr ⟨a, Finset.mem_insert_self _ _, h⟩
        · rw [h]
          rcases ih.1 with h' | ⟨k, hk, h'⟩
          · exact Or.inl h'
          · exact Or.inr ⟨k, Finset.mem_insert_of_mem hk, h'⟩
      · intro k hk
        rcases Finset.mem_insert.mp hk with rfl | hk
        · exact (hle _ _).1
        · exact (hle _ _).2.trans (ih.2 k hk)
  obtain ⟨k0, h0⟩ := hP
  obtain ⟨hs, hl⟩ := main Finset.univ (fun k : Fin 1024 => if P k then BitVec.ofNat 32 k.val else 1073741824#32)
  have hk := hl k0 (Finset.mem_univ _)
  simp only [if_pos h0] at hk
  have hn : ∀ k : Fin 1024, (BitVec.ofNat 32 k.val).toInt < 1024 := by decide +kernel
  have hlt := lt_of_le_of_lt hk (hn k0)
  rcases hs with h | ⟨k, _, h⟩
  · rw [h] at hlt; exact absurd hlt (by decide)
  · by_cases hPk : P k
    · simp only [if_pos hPk] at h
      exact ⟨k, hPk, h⟩
    · simp only [if_neg hPk] at h
      rw [h] at hlt; exact absurd hlt (by decide)

end Cert.Hardest

end
-- ==== Proof.StageC.lean ====
/- The third kernel at one entry: the cosines, the three largest of each row, and the loss. -/
module

public import proofs.«01_k».proof.Proof.Gen.KernelIdeal.Frame
public import proofs.«01_k».proof.Proof.Hardest
public import proofs.«01_k».proof.Proof.StageA
public import Idealize.ShloMosaic.Lib.Pointwise
public import Idealize.ShloMosaic.Lib.Pipeline.ValueKit

@[expose] public section

set_option maxRecDepth 65536

noncomputable section

namespace Cert.KernelIdeal.StageC

open Idealize.ShloMosaic Idealize.ShloMosaic.TcCoe
open Cert.KernelIdeal Cert.KernelIdeal.Gen

open Cert.Hardest

/-- The least float, a maximum's start. -/
theorem ofBits_bot : Ideal.ofBits FTy.f32 4286578688#32 = ⊥ := by
  simp [Ideal.ofBits, Ideal.ieee]

theorem ofBits_two : Ideal.ofBits FTy.f32 1073741824#32 = (2 : EReal) := by
  have : Ideal.ofBits FTy.f32 1073741824#32 = ((2 : ℝ) : EReal) := by
    simp [Ideal.ofBits, Ideal.ieee, -EReal.coe_mul]; norm_num
  rw [this]; rfl

/-- Twice a number is the number and itself. -/
theorem two_mul' (x : EReal) : (2 : EReal) * x = x + x := by
  induction x with
  | bot => rw [EReal.mul_bot_of_pos (by norm_num)]; rfl
  | top => rw [EReal.mul_top_of_pos (by norm_num)]; rfl
  | coe r =>
    rw [← EReal.coe_add, ← two_mul, EReal.coe_mul]; rfl

theorem exp_nonneg (x : EReal) : 0 ≤ Ideal.exp x := by
  induction x with
  | bot => exact le_of_eq rfl
  | top => exact le_top
  | coe r => rw [Ideal.exp_coe]; exact EReal.coe_nonneg.mpr (Real.exp_pos r).le

/-- The small constant that keeps a denominator from nought is above nought. -/
theorem eps_pos : 0 < Ideal.ofBits FTy.f32 841731191#32 := by
  have : Ideal.ofBits FTy.f32 841731191#32 = ((11258999 * (2:ℝ) ^ (-50 : ℤ) : ℝ) : EReal) := by
    simp [Ideal.ofBits, Ideal.ieee, -EReal.coe_mul]
  rw [this]
  exact EReal.coe_pos.mpr (by positivity)

theorem eps_ne_top : Ideal.ofBits FTy.f32 841731191#32 ≠ ⊤ := by
  have : Ideal.ofBits FTy.f32 841731191#32 = ((11258999 * (2:ℝ) ^ (-50 : ℤ) : ℝ) : EReal) := by
    simp [Ideal.ofBits, Ideal.ieee, -EReal.coe_mul]
  rw [this]
  exact EReal.coe_ne_top _

/-- A share `e / (e + n + eps)` of numbers that are not negative has a logarithm below infinity. -/
theorem log_share_ne_top (e n c : EReal) (he : 0 ≤ e) (hn : 0 ≤ n) (hc : 0 < c) : Ideal.log (Ideal.div e (e + n + c)) ≠ ⊤ := by
  have hpos : 0 < e + n + c := lt_of_lt_of_le hc (le_add_of_nonneg_left (add_nonneg he hn))
  rw [Ideal.div, if_neg hpos.ne']
  induction e with
  | bot => exact absurd he (by simp)
  | top =>
    have : (⊤ : EReal) + n + c = ⊤ := by
      rw [EReal.top_add_of_ne_bot (ne_bot_of_le_ne_bot EReal.zero_ne_bot hn), EReal.top_add_of_ne_bot (hc.trans_le' bot_le).ne']
    rw [this, EReal.inv_top, mul_zero]
    have hz : Ideal.log 0 = ⊥ := by
      have : (0 : EReal) = ((0 : ℝ) : EReal) := rfl
      rw [this, Ideal.log_coe, if_pos le_rfl]
    rw [hz]; simp
  | coe r =>
    generalize hD : (r : EReal) + n + c = D at *
    induction D with
    | bot => exact absurd hpos (by simp)
    | top =>
      rw [EReal.inv_top, mul_zero]
      have hz : Ideal.log 0 = ⊥ := by
        have : (0 : EReal) = ((0 : ℝ) : EReal) := rfl
        rw [this, Ideal.log_coe, if_pos le_rfl]
      rw [hz]; simp
    | coe s =>
      rw [← EReal.coe_inv, ← EReal.coe_mul, Ideal.log_coe]
      split <;> simp

/-- The positive's cosine over `τ`, as a power of e. -/
def share (p τ : EReal) : EReal := Ideal.exp (Ideal.div p τ)

/-- One row's logarithm: the positive's share of itself, the negatives' and the small constant. -/
def rowLog (e n : EReal) : EReal := Ideal.log (Ideal.div e (e + n + Ideal.ofBits FTy.f32 841731191#32))

/-- The loss: minus the mean of the rows' logarithms. -/
def loss (p : Fin 1024 → EReal) (neg : Fin 1024 → Fin 5 → EReal) (τp τn : EReal) : EReal :=
  -(Ideal.div (∑ b, rowLog (share (p b) τp) (∑ q : Fin 5, share (neg b q) τn)) (Ideal.ofBits FTy.f32 1149239296#32))

theorem share_nonneg (p τ : EReal) : 0 ≤ share p τ := exp_nonneg _

theorem rowLog_ne_top (e n : EReal) (he : 0 ≤ e) (hn : 0 ≤ n) : rowLog e n ≠ ⊤ := log_share_ne_top e n _ he hn eps_pos

/-- A sum of negations is the negation of the sum, where no term is infinity. -/
theorem sum_neg' {ι : Type} (s : Finset ι) (f : ι → EReal) (h : ∀ i, f i ≠ ⊤) : ∑ i ∈ s, (0 - f i) = -(∑ i ∈ s, f i) ∧ ∑ i ∈ s, f i ≠ ⊤ := by
  classical
  induction s using Finset.induction_on with
  | empty => simp
  | insert a s ha ih =>
    rw [Finset.sum_insert ha, Finset.sum_insert ha, ih.1]
    refine ⟨?_, ?_⟩
    · rw [EReal.neg_add (Or.inr ih.2) (Or.inl (h a)), zero_sub]; rfl
    · exact EReal.add_ne_top (h a) ih.2

theorem ofBits_1024 : Ideal.ofBits FTy.f32 1149239296#32 = ((1024 : ℝ) : EReal) := by
  simp [Ideal.ofBits, Ideal.ieee, -EReal.coe_mul]; norm_num

theorem div_neg' (x : EReal) : Ideal.div (-x) (Ideal.ofBits FTy.f32 1149239296#32) = -(Ideal.div x (Ideal.ofBits FTy.f32 1149239296#32)) := by
  rw [ofBits_1024, Ideal.div_coe (by norm_num), Ideal.div_coe (by norm_num), EReal.neg_mul]

theorem select_word (c : BitVec 1) (x y : EReal) : Scalar.select c x y = if c = 1#1 then x else y := by
  rcases (show c = 0#1 ∨ c = 1#1 by revert c; decide) with rfl | rfl <;> rfl

theorem cmpi_word (k i : Fin 1024) : IntOp.cmpi CmpIPredicate.eq (BitVec.ofNat 32 k.val) (BitVec.ofNat 32 i.val) = if k = i then 1#1 else 0#1 := by
  by_cases h : k = i
  · subst h; simp [IntOp.cmpi]
  · have : BitVec.ofNat 32 k.val ≠ BitVec.ofNat 32 i.val := by
      intro e
      have := congrArg BitVec.toNat e
      simp only [BitVec.toNat_ofNat] at this
      rw [Nat.mod_eq_of_lt (by omega), Nat.mod_eq_of_lt (by omega)] at this
      exact h (Fin.ext this)
    rw [if_neg h]
    show BitVec.ofBool (BitVec.ofNat 32 k.val == BitVec.ofNat 32 i.val) = 0#1
    rw [beq_eq_false_iff_ne.mpr this]
    rfl

theorem ite_word {α : Type} (p : Prop) [Decidable p] (x y : α) : (if (if p then 1#1 else 0#1) = 1#1 then x else y) = if p then x else y := by
  by_cases h : p <;> simp [h]

theorem strike_eq {N : ℕ} (g : Fin N → EReal) (i k : Fin N) : (if k = i then ⊥ else g k) = strike g i k := rfl

theorem top_eq {N : ℕ} (g : Fin N → EReal) : Finset.fold max (⊥ : EReal) (fun k => g k) Finset.univ = top g := rfl

variable (v0 v1 : Vec Ideal S1024x256 .f32)

/-- The cosine of row `b` of the first array and row `k` of the second. -/
def cosRow (v0 v1 : Vec Ideal S1024x256 .f32) (b k : Fin 1024) : EReal :=
  Ideal.div (∑ x : Fin 256, v0 (ix2 b x) * v1 (ix2 k x))
      (max (Ideal.sqrt (∑ x : Fin 256, v0 (ix2 b x) * v0 (ix2 b x)) * Ideal.sqrt (∑ x : Fin 256, v1 (ix2 k x) * v1 (ix2 k x)))
        (Ideal.ofBits FTy.f32 841731191#32))

theorem pay7_at (b k : Fin 1024) : k2_pay7 v0 v1 (ix2 b k) = cosRow v0 v1 b k := by
  pointwise [k2_pay7, k2_pay1,k2_pay4,k2_pay5]
  rfl

theorem pay6_at (b : Fin 1024) : k2_pay6 v0 v1 (ix2 b 0) = cosRow v0 v1 b b := by
  pointwise [k2_pay6, k2_pay1,k2_pay4,k2_pay5]
  rfl

theorem pay8_at (b : Fin 1024) : k2_pay8 v0 v1 (ix2 b 0) = top (cosRow v0 v1 b) := by
  have h7 := pay7_at v0 v1
  unfold k2_pay8
  generalize k2_pay7 v0 v1 = g at *
  pointwise []
  simp only [h7, ofBits_bot]
  rfl

/-- The first search marks one place that holds the row's largest. -/
theorem pay9_at (b : Fin 1024) : ∃ i : Fin 1024, cosRow v0 v1 b i = top (cosRow v0 v1 b) ∧
    ∀ k, k2_pay9 v0 v1 (ix2 b k) = if k = i then 1#1 else 0#1 := by
  obtain ⟨i, hi, hf⟩ := least_place (fun k => cosRow v0 v1 b k = top (cosRow v0 v1 b)) (exists_top (by norm_num) _)
  refine ⟨i, hi, fun k => ?_⟩
  rw [← cmpi_word, ← hf]
  have h7 := pay7_at v0 v1
  have h8 := pay8_at v0 v1
  unfold k2_pay9
  generalize k2_pay7 v0 v1 = g at *
  generalize k2_pay8 v0 v1 = t at *
  pointwise []
  simp only [h7, h8]

theorem pay11_at (v4 v6 : EReal) (v21 : FVec Ideal S1024x1 .f32) (v29 : FVec Ideal S1024x1024 .f32) (v30 : IVec S1024x1024 32)
    (v32 : FVec Ideal S1024x1 .f32) (v40 : IVec S1024x1024 1) (v41 : FVec Ideal S1024x1024 .f32)
    (p : Fin 1024 → EReal) (g : Fin 1024 → Fin 1024 → EReal) (i : Fin 1024 → Fin 1024)
    (h21 : ∀ b, v21 (ix2 b 0) = p b)
    (h30 : ∀ b k : Fin 1024, v30 (ix2 b k) = BitVec.ofNat 32 k.val)
    (h32 : ∀ b, v32 (ix2 b 0) = top (g b))
    (h : ∀ b k, Scalar.select (v40 (ix2 b k)) (v41 (ix2 b k)) (v29 (ix2 b k)) = strike (g b) (i b) k) :
    ∃ j : Fin 1024 → Fin 1024, (∀ b, strike (g b) (i b) (j b) = top (strike (g b) (i b))) ∧
      k2_pay11 (F := Ideal) v4 v6 v21 v29 v30 v32 v40 v41 (ix2 0 0)
        = Ideal.div (∑ b : Fin 1024, (0 - rowLog (share (p b) v4) (2 * share (top (g b)) v6 + 2 * share (top (strike (g b) (i b))) v6
            + share (top (strike (strike (g b) (i b)) (j b))) v6))) (Ideal.ofBits FTy.f32 1149239296#32) := by
  choose j hj hf using fun b => least_place (fun k => strike (g b) (i b) k = top (strike (g b) (i b))) (exists_top (by norm_num) _)
  refine ⟨j, hj, ?_⟩
  pointwise [k2_pay11]
  simp only [h21, h30, h32, h, ofBits_bot, top_eq, hf, cmpi_word, select_word, ite_word, strike_eq, ofBits_two, Finset.sum_const, Finset.card_univ, Fintype.card_fin, one_smul]
  rfl

theorem neg_five (g : Fin 1024 → EReal) (d : Fin 2048 → EReal) (hd : ∀ v, count d v = 2 * count g v) (σ : Fin 2048 → Fin 2048)
    (hσ : Function.Bijective σ) (hm : Antitone (d ∘ σ)) (i j : Fin 1024) (hi : g i = top g) (hj : strike g i j = top (strike g i)) (τ : EReal) :
    2 * share (top g) τ + 2 * share (top (strike g i)) τ + share (top (strike (strike g i) j)) τ
      = ∑ q : Fin 5, share (d (σ ⟨q.val, by omega⟩)) τ := by
  obtain ⟨h0, h1, h2, h3, h4⟩ := five (by norm_num) (by norm_num) g d hd σ hσ hm i j hi hj
  rw [Fin.sum_univ_five]
  simp only [Fin.isValue, Fin.val_zero, Fin.val_one, Fin.val_two, show ((3 : Fin 5).val) = 3 from rfl, show ((4 : Fin 5).val) = 4 from rfl]
  rw [h0, h1, h2, h3, h4, two_mul', two_mul']
  simp only [add_assoc]

/-- What the third kernel leaves: the loss, with each row's five negatives read off any list `d` that holds the row's cosines twice,
    in any descending order of it. -/
theorem out_loss (τp τn : EReal) (d : Fin 1024 → Fin 2048 → EReal) (hd : ∀ b v, count (d b) v = 2 * count (cosRow v0 v1 b) v)
    (σ : Fin 1024 → Fin 2048 → Fin 2048) (hσ : ∀ b, Function.Bijective (σ b)) (hm : ∀ b, Antitone (d b ∘ σ b)) :
    k2_pay11 (F := Ideal) τp τn (k2_pay6 v0 v1) (k2_pay7 v0 v1) (iota .tc S1024x1024 32 [1] iota_S1024x1024_d1_w32) (k2_pay8 v0 v1)
        (k2_pay9 v0 v1) (k2_pay10 (F := Ideal)) (ix2 0 0)
      = loss (fun b => cosRow v0 v1 b b) (fun b q => d b (σ b ⟨q.val, by omega⟩)) τp τn := by
  choose i hi h9 using pay9_at v0 v1
  have h10 : ∀ b k : Fin 1024, k2_pay10 (F := Ideal) (ix2 b k) = ⊥ := by
    intro b k
    pointwise [k2_pay10]
    exact ofBits_bot
  obtain ⟨j, hj, h⟩ := pay11_at τp τn (k2_pay6 v0 v1) (k2_pay7 v0 v1) (iota .tc S1024x1024 32 [1] iota_S1024x1024_d1_w32) (k2_pay8 v0 v1)
    (k2_pay9 v0 v1) (k2_pay10 (F := Ideal)) (fun b => cosRow v0 v1 b b) (cosRow v0 v1) i (pay6_at v0 v1)
    (fun b k => by pointwise []) (pay8_at v0 v1)
    (fun b k => by rw [select_word, h9, ite_word, h10, pay7_at]; rfl)
  rw [h, (sum_neg' _ _ fun b => ?_).1, div_neg']
  · unfold loss
    refine congrArg (fun s => -(Ideal.div s _)) (Finset.sum_congr rfl fun b _ => ?_)
    rw [neg_five _ (d b) (hd b) (σ b) (hσ b) (hm b) (i b) (j b) (hi b) (hj b)]
  · refine rowLog_ne_top _ _ (share_nonneg _ _) ?_
    rw [neg_five _ (d b) (hd b) (σ b) (hσ b) (hm b) (i b) (j b) (hi b) (hj b)]
    exact Finset.sum_nonneg fun q _ => share_nonneg _ _

end Cert.KernelIdeal.StageC

end
-- ==== Proof.RefLoss.lean ====
/- The reference's loss: the negatives hold each corrected row twice, and five of them are ranked first. -/
module

public import proofs.«01_k».proof.Proof.Gen.ReferenceIdeal.Run
public import proofs.«01_k».proof.Proof.StageC
public import Idealize.ShloMosaic.Lib.SortFacts
public import Idealize.ShloMosaic.Lib.Pointwise
public import Idealize.ShloMosaic.Lib.Pipeline.ValueKit

@[expose] public section

set_option maxRecDepth 65536

noncomputable section

namespace Cert.ReferenceIdeal.Point

open Idealize.ShloMosaic Idealize.ShloMosaic.TcCoe
open Cert.ReferenceIdeal Cert.ReferenceIdeal.Gen Cert.ReferenceIdeal.Value

open Cert.Hardest
open Cert.KernelIdeal.StageC (loss rowLog share cosRow)

/-- Which corrected row the negative `k` is: the rows moved on by one, then the rows themselves. -/
def neg (k : Fin 2048) : Fin 1024 :=
  if h : k.val < 1024 then (if k.val < 1 then ⟨1023, by omega⟩ else ⟨k.val - 1, by omega⟩) else ⟨k.val - 1024, by omega⟩

/-- Every row's number is reached twice among the negatives for once among the rows. -/
theorem count_neg (g : Fin 1024 → EReal) (v : EReal) : count (fun k => g (neg k)) v = 2 * count g v := by
  have h : ∀ (n : ℕ) (f : Fin n → EReal), count f v = ∑ k : Fin n, if v ≤ f k then 1 else 0 := by
    intro n f
    unfold Cert.Hardest.count
    exact Finset.card_filter _ _
  have hsplit : ∀ f : Fin 2048 → ℕ, ∑ k, f k = ∑ i : Fin 1024, f ⟨i.val, by omega⟩ + ∑ i : Fin 1024, f ⟨1024 + i.val, by omega⟩ :=
    fun f => Fin.sum_univ_add (a := 1024) (b := 1024) f
  have e1 : ∀ i : Fin 1024, neg ⟨1024 + i.val, by omega⟩ = i := by
    intro i
    apply Fin.ext
    unfold neg
    rw [dif_neg (by show ¬ 1024 + i.val < 1024; omega)]
    show 1024 + i.val - 1024 = i.val
    omega
  have hv : ∀ i : Fin 1024, (neg ⟨i.val, by omega⟩).val = if i.val < 1 then 1023 else i.val - 1 := by
    intro i
    unfold neg
    rw [dif_pos i.isLt]
    by_cases h : i.val < 1
    · rw [if_pos h, if_pos h]
    · rw [if_neg h, if_neg h]
  have hb : Function.Bijective fun i : Fin 1024 => neg ⟨i.val, by omega⟩ := by
    refine Finite.injective_iff_bijective.mp fun i j e => ?_
    have e' := (hv i).symm.trans ((congrArg Fin.val e).trans (hv j))
    apply Fin.ext
    have := i.isLt
    have := j.isLt
    split at e' <;> split at e' <;> omega
  rw [h, h, hsplit]
  refine (congrArg₂ (· + ·) (hb.sum_comp fun k => if v ≤ g k then 1 else 0)
    (Finset.sum_congr rfl fun i _ => congrArg (fun k => if v ≤ g k then 1 else 0) (e1 i))).trans ?_
  exact (two_mul _).symm

/-- The descending order in which a row of negatives is ranked. -/
def orderD (f : Fin 2048 → EReal) : Fin 2048 → Fin 2048 := sortedFrom fun k k' => decide (f k' < f k)

theorem orderD_bijective (f : Fin 2048 → EReal) : Function.Bijective (orderD f) :=
  ⟨sortedFrom_injective _, sortedFrom_surjective _⟩

theorem orderD_antitone (f : Fin 2048 → EReal) : Antitone (f ∘ orderD f) := by
  intro i j hij
  rcases eq_or_lt_of_le hij with h | h
  · rw [h]
  · have := sortedFrom_noInversion (fun k k' => decide (f k' < f k)) (fun k k' => decide (f k' < f k))
      (fun a b e => by simp only [decide_eq_true_eq, decide_eq_false_iff_not] at e ⊢; exact not_lt.mpr e.le) (fun a b e => e)
      (fun a b c e e' => by simp only [decide_eq_false_iff_not, not_lt] at e e' ⊢; exact e.trans e') i j h
    exact not_lt.mp (of_decide_eq_false this)

/-- The five largest of a row are the row at the first five places of its descending order. -/
theorem topK_at (x : FVec Ideal S1024x2048 .f32) (b : Fin 1024) (q : Fin 5) :
    (Host.topK S1024x5 1 (FloatOps.cmpfTotal .gt) x sliceFits_S1024x2048_S1024x5).1 (ix2 b q)
      = x (ix2 b (orderD (fun n => x (ix2 b n)) ⟨q.val, by omega⟩)) := by
  have hl : ∀ (p k : Fin 2048), (ix2 b p : S1024x2048.Idx).along (1 : Fin 2) k = ix2 b k := by
    intro p k
    funext a
    match a with
    | 0 => rfl
    | 1 => rfl
  have hs : ∀ p : Fin 2048, (Host.sort2 S1024x2048 1 (fun l r => FloatOps.cmpfTotal .gt l.1 r.1) x
      (fun i => if hd : 1 < S1024x2048.rank then iotaInDim S1024x2048 32 ⟨1, hd⟩ i else 0#32)).1 (ix2 b p) = x (ix2 b (orderD (fun n => x (ix2 b n)) p)) := by
    intro p
    refine (congrArg x (hl p _)).trans ?_
    refine congrArg (fun q => x (ix2 b q)) ?_
    refine congrArg (fun R => sortedFrom R p) ?_
    funext k k'
    refine (congrArg₂ (fun r s => FloatOps.cmpfTotal (F := Ideal) .gt (x r) (x s) == 1#1) (hl p k) (hl p k')).trans ?_
    show (BitVec.ofBool (decide ((x (ix2 b k') : EReal) < x (ix2 b k))) == 1#1) = decide ((x (ix2 b k') : EReal) < x (ix2 b k))
    cases decide ((x (ix2 b k') : EReal) < x (ix2 b k)) <;> rfl
  refine Eq.trans ?_ (hs ⟨q.val, by omega⟩)
  have hx : ∀ T : S1024x2048.Idx → EReal, extractStridedSlice S1024x5 (fun _ => 0) T sliceFits_S1024x2048_S1024x5 (ix2 b q) = T (ix2 b ⟨q.val, by omega⟩) := by
    intro T
    pointwise
  exact hx (Host.sort2 S1024x2048 1 (fun l r => FloatOps.cmpfTotal (F := Ideal) .gt l.1 r.1) x
      (fun i => if hd : 1 < S1024x2048.rank then iotaInDim S1024x2048 32 ⟨1, hd⟩ i else 0#32)).1

variable (V0 : Idealize.ShloMosaic.Valuation τ sig (Elt Ideal))

/-- The negatives: each corrected row twice. -/
theorem negs_at (k : Fin 2048) (x : Fin 256) : (res_main_v113 V0 : FVec Ideal S1x2048x256 .f32) (ix3 0 k x) = (res_main_v94 V0 : FVec Ideal S1024x256 .f32) (ix2 (neg k) x) := by
  unfold res_main_v113
  generalize (res_main_v94 V0 : FVec Ideal S1024x256 .f32) = C
  have hz : ∀ a, Host.clampedStart S1024x256 (Proc.devRef .tc main_v94 : DevRef τ sig).ty.shape rfl
      (fun k => BitVec.toInt (![constantI S_ 32 0#32, constantI S_ 32 0#32] k (Shape.Idx.first h_S_))) a = 0 := by
    intro a
    match a with
    | 0 => rfl
    | 1 => rfl
  pointwise
  simp only [hz]
  unfold neg
  by_cases h : k.val < 1024
  · rw [dif_pos h, dif_pos h]
    by_cases h1 : k.val < 1
    · rw [dif_pos h1, if_pos h1]
      exact congrArg (fun r => C (ix2 r x)) (Fin.ext (by show 1023 + k.val = 1023; omega))
    · rw [dif_neg h1, if_neg h1]
  · rw [dif_neg h, dif_neg h]
    rw [dif_pos ⟨⟨by omega, by omega⟩, by omega⟩]
    rfl

abbrev A0 : FVec Ideal S1024x256 .f32 := V0 (Proc.devRef .tc main_arg0)
abbrev C94 : FVec Ideal S1024x256 .f32 := res_main_v94 V0

theorem cos_at (b : Fin 1024) (k : Fin 2048) : (res_main_v129 V0 : FVec Ideal S1024x2048 .f32) (ix2 b k) = cosRow (A0 V0) (C94 V0) b (neg k) := by
  have h := negs_at V0
  unfold res_main_v129
  generalize (res_main_v113 V0 : FVec Ideal S1x2048x256 .f32) = C at *
  pointwise [res_main_v112]
  simp only [h]
  rfl

theorem pos_at (b : Fin 1024) : (res_main_v132 V0 : FVec Ideal S1024 .f32) (ix1 b)
    = share (cosRow (A0 V0) (C94 V0) b b) (Ideal.exp ((V0 (Proc.devRef .tc main_arg2) : FVec Ideal S_ .f32) ix0)) := by
  unfold res_main_v132 C94
  generalize (res_main_v94 V0 : FVec Ideal S1024x256 .f32) = C
  pointwise
  rfl

/-- The loss, as the reference composes it. -/
def lossT : FVec Ideal S_ .f32 :=
  Host.negf (Host.divf (Host.reduceAdd (Host.log (Host.divf (res_main_v132 V0) (addf (addf (res_main_v132 V0) (Host.reduceAdd (Host.exp (Host.divf ((Host.topK S1024x5 1 (FloatOps.cmpfTotal .gt) (res_main_v129 V0) sliceFits_S1024x2048_S1024x5).1) (broadcastInDim S1024x5 ![] bcast_S_S1024x5 (Host.exp (V0 (Proc.devRef .tc main_arg3)))))) (constant S_ .f32 0x00000000#32) reducesTo_S1024x5_S1024_d1 h_S_)) (broadcastInDim S1024 ![] bcast_S_S1024 (constant S_ .f32 0x322BCC77#32))))) (constant S_ .f32 0x00000000#32) reducesTo_S1024_S_d0 h_S_) (constant S_ .f32 0x44800000#32))

/-- The reference's loss. -/
theorem lossed : lossT V0 = fun _ => loss (fun b => cosRow (A0 V0) (C94 V0) b b)
    (fun b q => cosRow (A0 V0) (C94 V0) b (neg (orderD (fun k => cosRow (A0 V0) (C94 V0) b (neg k)) ⟨q.val, by omega⟩)))
    (Ideal.exp ((V0 (Proc.devRef .tc main_arg2) : FVec Ideal S_ .f32) ix0)) (Ideal.exp ((V0 (Proc.devRef .tc main_arg3) : FVec Ideal S_ .f32) ix0)) := by
  funext i
  have hi : i = ix0 := by funext a; exact a.elim0
  rw [hi]
  have hT : ∀ (b : Fin 1024) (q : Fin 5), ((Host.topK S1024x5 1 (FloatOps.cmpfTotal (F := Ideal) (φ := .f32) .gt) (res_main_v129 V0 : FVec Ideal S1024x2048 .f32) sliceFits_S1024x2048_S1024x5).1 : FVec Ideal S1024x5 .f32) (ix2 b q)
      = cosRow (A0 V0) (C94 V0) b (neg (orderD (fun k => cosRow (A0 V0) (C94 V0) b (neg k)) ⟨q.val, by omega⟩)) := by
    intro b q
    refine (topK_at _ b q).trans ?_
    have : (fun n => (res_main_v129 V0 : FVec Ideal S1024x2048 .f32) (ix2 b n)) = fun k => cosRow (A0 V0) (C94 V0) b (neg k) := funext fun k => cos_at V0 b k
    rw [this, cos_at]
  have hp := pos_at V0
  unfold lossT
  generalize (Host.topK S1024x5 1 (FloatOps.cmpfTotal (F := Ideal) (φ := .f32) .gt) (res_main_v129 V0 : FVec Ideal S1024x2048 .f32) sliceFits_S1024x2048_S1024x5).1 = T at *
  generalize (res_main_v132 V0 : FVec Ideal S1024 .f32) = C at *
  pointwise
  simp only [hT, hp]
  rfl

end Cert.ReferenceIdeal.Point

end
-- ==== Proof.ArrayC.lean ====
/- The third kernel's result after its grid: the loss, over the argument arrays and the corrected rows. -/
module

public import proofs.«01_k».proof.Proof.ArrayA
public import proofs.«01_k».proof.Proof.StageC
public import Idealize.ShloMosaic.Lib.Claim

@[expose] public section

set_option maxRecDepth 65536

noncomputable section

namespace Cert.KernelIdeal.StageC

open Idealize.ShloMosaic Idealize.ShloMosaic.TcCoe Idealize.SL.Sem
open Idealize.ShloMosaic.Pipeline (Dat)
open Cert.KernelIdeal Cert.KernelIdeal.Gen
open Cert.Hardest
open Cert.KernelIdeal.StageA (X0)

/-- Where each window's block sits: at the start. -/
theorem idx : ∀ t : Fin cfg2.N, win2_0.index t = ![0, 0] ∧ win2_1.index t = ![0, 0] ∧ win2_2.index t = ![0, 0] ∧ win2_3.index t = ![0, 0] :=
  (by decide +kernel : ∀ t : Fin grid2.N, _)

variable (m : (ℓ : Loc nD τ sig) → Buf (Elt Ideal) ℓ) (ρ : Dev nD → PrngReg)

/-- The two temperatures, as the third kernel finds them. -/
theorem V4_pos (c : Dev nD) : (V4 m ρ c main_v19 : FVec Ideal S1x2 .f32) (ix2 0 0) = Ideal.exp ((m ((c : Thread nD τ).loc main_arg2) : FVec Ideal S_ .f32) ix0) := by
  show (StableHlo.after hostOps2 (W3 m ρ c) (Proc.devRef .tc main_v19) : FVec Ideal S1x2 .f32) (ix2 0 0) = _
  entry_read
  pointwise
  exact congrArg Ideal.exp (congrFun (W3_args m ρ c main_arg2 (by decide)) ix0)

theorem V4_neg (c : Dev nD) : (V4 m ρ c main_v19 : FVec Ideal S1x2 .f32) (ix2 0 1) = Ideal.exp ((m ((c : Thread nD τ).loc main_arg3) : FVec Ideal S_ .f32) ix0) := by
  show (StableHlo.after hostOps2 (W3 m ρ c) (Proc.devRef .tc main_v19) : FVec Ideal S1x2 .f32) (ix2 0 1) = _
  entry_read
  pointwise
  exact congrArg Ideal.exp (congrFun (W3_args m ρ c main_arg3 (by decide)) ix0)

/-- The result is the third kernel's one entry. -/
theorem out6 (c : Dev nD) : (W6 m ρ c (Proc.devRef .tc main_v21) : FVec Ideal S_ .f32) ix0 = (W5 m ρ c (Proc.devRef .tc main_v20) : FVec Ideal S1x1 .f32) (ix2 0 0) := by
  show (StableHlo.after hostOps3 (W5 m ρ c) (Proc.devRef .tc main_v21) : FVec Ideal S_ .f32) ix0 = _
  entry_read
  pointwise

/-- The first argument reaches the third kernel unchanged. -/
theorem V4_arg0 (c : Dev nD) : (V4 m ρ c main_arg0 : FVec Ideal S1024x256 .f32) = X0 m c := W4_args m ρ c main_arg0 (by decide)

/-- So do the corrected rows. -/
theorem V4_corr (c : Dev nD) : (V4 m ρ c main_v12_0 : FVec Ideal S1024x256 .f32) = W6 m ρ c (Proc.devRef .tc main_v12_0) :=
  ((W6_of m ρ c main_v12_0 (by decide)).trans (W5_of m ρ c main_v12_0 (by decide))).symm

theorem blk0 (c : Dev nD) (t : Fin cfg2.N) : (iblk2 (V4 m ρ) c 0 t : FVec Ideal S1024x256 .f32) = X0 m c := by
  rw [← V4_arg0 m ρ c]
  refine funext fun (y : S1024x256.Idx) => ?_
  have hy : y = ix2 (y 0 : Fin 1024) (y 1 : Fin 256) := by blk_ext
  rw [hy]
  generalize (y 0 : Fin 1024) = r
  generalize (y 1 : Fin 256) = q
  blk_ext [iblk2, idx t]

theorem blk1 (c : Dev nD) (t : Fin cfg2.N) : (iblk2 (V4 m ρ) c 1 t : FVec Ideal S1024x256 .f32) = W6 m ρ c (Proc.devRef .tc main_v12_0) := by
  rw [← V4_corr m ρ c]
  refine funext fun (y : S1024x256.Idx) => ?_
  have hy : y = ix2 (y 0 : Fin 1024) (y 1 : Fin 256) := by blk_ext
  rw [hy]
  generalize (y 0 : Fin 1024) = r
  generalize (y 1 : Fin 256) = q
  blk_ext [iblk2, idx t]

theorem blk2 (c : Dev nD) (t : Fin cfg2.N) (q : Fin 2) : (iblk2 (V4 m ρ) c 2 t : FVec Ideal S1x2 .f32) (ix2 0 q) = (V4 m ρ c main_v19 : FVec Ideal S1x2 .f32) (ix2 0 q) := by
  blk_ext [iblk2, idx t]

/-- The body's one entry, over its blocks. -/
theorem out_at (x0 x1 : Vec Ideal S1024x256 .f32) (x2 : Vec Ideal S1x2 .f32) (d : Fin 1024 → Fin 2048 → EReal)
    (hd : ∀ b v, count (d b) v = 2 * count (cosRow x0 x1 b) v)
    (σ : Fin 1024 → Fin 2048 → Fin 2048) (hσ : ∀ b, Function.Bijective (σ b)) (hm : ∀ b, Antitone (d b ∘ σ b)) :
    out2_3 x0 x1 x2 (ix2 0 0) = loss (fun b => cosRow x0 x1 b b) (fun b q => d b (σ b ⟨q.val, by omega⟩)) (x2 (ix2 0 0)) (x2 (ix2 0 1)) := by
  rw [← out_loss x0 x1 (x2 (ix2 0 0)) (x2 (ix2 0 1)) d hd σ hσ hm]
  unfold out2_3
  frame_out
  have h2 : k2_pay2 (View.ld x2 r2_1) = x2 (ix2 0 0) := by
    pointwise [k2_pay2]
  have h3 : k2_pay3 (View.ld x2 r2_2) = x2 (ix2 0 1) := by
    pointwise [k2_pay3]
  rw [h2, h3]

/-- The third kernel leaves the loss, whatever descending order of a list that holds each row's cosines twice it is read in. -/
theorem lossed (c : Dev nD) (C : FVec Ideal S1024x256 .f32) (hC : W6 m ρ c (Proc.devRef .tc main_v12_0) = C) (d : Fin 1024 → Fin 2048 → EReal)
    (hd : ∀ b v, count (d b) v = 2 * count (cosRow (X0 m c) C b) v)
    (σ : Fin 1024 → Fin 2048 → Fin 2048) (hσ : ∀ b, Function.Bijective (σ b)) (hm : ∀ b, Antitone (d b ∘ σ b)) :
    (W6 m ρ c (Proc.devRef .tc main_v21) : FVec Ideal S_ .f32)
      = fun _ => loss (fun b => cosRow (X0 m c) C b b) (fun b q => d b (σ b ⟨q.val, by omega⟩))
          (Ideal.exp ((m ((c : Thread nD τ).loc main_arg2) : FVec Ideal S_ .f32) ix0)) (Ideal.exp ((m ((c : Thread nD τ).loc main_arg3) : FVec Ideal S_ .f32) ix0)) := by
  have key : ((dat2 (V4 m ρ) c).arrAt 3 cfg2.N : FVec Ideal S1x1 .f32)
      = fun _ => loss (fun b => cosRow (X0 m c) C b b) (fun b q => d b (σ b ⟨q.val, by omega⟩))
          (Ideal.exp ((m ((c : Thread nD τ).loc main_arg2) : FVec Ideal S_ .f32) ix0)) (Ideal.exp ((m ((c : Thread nD τ).loc main_arg3) : FVec Ideal S_ .f32) ix0)) := by
    refine (dat2 (V4 m ρ) c).arrAt_eq_of_covers 3 _ (by decide +kernel) fun t _ y => ?_
    blk_simp [idx t]
    rw [after2_3]
    have hy : y = ix2 (0 : Fin 1) (0 : Fin 1) := by blk_ext
    refine Eq.trans (congrArg _ hy) ?_
    have h0 := blk0 m ρ c t
    have h1 := (blk1 m ρ c t).trans hC
    refine Eq.trans (out_at (iblk2 (V4 m ρ) c 0 t) (iblk2 (V4 m ρ) c 1 t) (iblk2 (V4 m ρ) c 2 t) d ?_ σ hσ hm) ?_
    · intro b v
      rw [h0, h1]
      exact hd b v
    · rw [h0, h1]
      rw [(blk2 m ρ c t 0).trans (V4_pos m ρ c), (blk2 m ρ c t 1).trans (V4_neg m ρ c)]
  funext i
  have hi : i = ix0 := by funext a; exact a.elim0
  rw [hi, out6]
  exact congrFun ((W5_arr m ρ c 3).trans key) (ix2 0 0)

end Cert.KernelIdeal.StageC

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.ReferenceIdeal.Run
public import Idealize.ShloMosaic.Adequacy
public import Idealize.ShloMosaic.Init
public import Idealize.ShloMosaic.Lib.Quiescent
public import Idealize.ShloMosaic.Lib.Claim
public import proofs.«01_k».proof.Proof.KernelRun
public import proofs.«01_k».proof.Proof.Finite
public import proofs.«01_k».proof.Proof.RefCorrected
public import proofs.«01_k».proof.Proof.RefClusters
public import proofs.«01_k».proof.Proof.RefLoss
public import proofs.«01_k».proof.Proof.ArrayB
public import proofs.«01_k».proof.Proof.ArrayC

@[expose] public section

noncomputable section

namespace Cert.Proof

open Idealize.ShloMosaic Idealize.ShloMosaic.TcCoe Idealize.SL.Sem Idealize.ShloMosaic.StableHlo

/-- The printed kernel runs, leaves its arguments and ends quiescent. -/
theorem frameKernel : Cert.quiescent_Kernel := fun m ρ _ => Cert.Kernel.Gen.frame m ρ

/-- So does its idealization. -/
theorem frameIdeal : Cert.quiescent_KernelIdeal := fun m ρ _ => Cert.KernelIdeal.Gen.frame m ρ

/-- And under the precondition. -/
theorem frameIdealPre : Cert.quiescent_KernelIdeal_pre_finite := fun m ρ _ => Cert.KernelIdeal.Gen.frame m ρ

/-- The reference runs, leaves its arguments, and has no counters to leave. -/
theorem frameRef : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- And under the precondition. -/
theorem frameRefPre : Cert.quiescent_ReferenceIdeal_pre_finite := fun m ρ _ => frameRef m ρ trivial

/-- The scale's name stands for the number its literal was computed from. -/
theorem preserved : Cert.preserves_Kernel_KernelIdeal :=
  IdealRules.named_const.statement Cert.KernelIdeal.κ "inv_sqrt_dh" .f32 0x3E3504F3#32 (((Real.sqrt 32)⁻¹ : ℝ) : EReal) rfl

/-- The two memories hold the same arguments. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

open Cert.KernelIdeal.Gen in
/-- The corrected rows: what the kernel leaves in the first launch's first result is what the reference computes. -/
theorem correctedEq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hp : Cert.Pre_KernelIdeal_finite (hPre_finite := Cert.Pre_finite.Gen.facts) m) (c : Dev Cert.KernelIdeal.nD) (ha : Agree m m' c) :
    (Cert.ReferenceIdeal.Value.res_main_v94 (launchContents m' c) : FVec Ideal Cert.KernelIdeal.S1024x256 .f32)
      = W6 m g c (Proc.devRef .tc Cert.KernelIdeal.main_v12_0) := by
  obtain ⟨r0, r1, r4, r5, r6⟩ := Cert.Finite.reals m hp c
  obtain ⟨h0, h1, h2, h3, h4, h5, h6, h7, h8⟩ := ha
  have k : W6 m g c (Proc.devRef .tc Cert.KernelIdeal.main_v12_0) = _ :=
    (W6_of m g c Cert.KernelIdeal.main_v12_0 (by decide)).trans
      ((W5_of m g c Cert.KernelIdeal.main_v12_0 (by decide)).trans
        ((W4_of m g c Cert.KernelIdeal.main_v12_0 (by decide)).trans
          ((W3_of m g c Cert.KernelIdeal.main_v12_0 (by decide)).trans
            ((W2_arr m g c 8).trans (Cert.KernelIdeal.StageA.corrected m g c r0 r1 r4 r5 r6)))))
  have e0 : Cert.ReferenceIdeal.Point.Y0 (launchContents m' c) = Cert.KernelIdeal.StageA.X0 m c := h0
  have e1 : Cert.ReferenceIdeal.Point.Y1 (launchContents m' c) = Cert.KernelIdeal.StageA.X1 m c := h1
  have e4 : Cert.ReferenceIdeal.Point.Y4 (launchContents m' c) = Cert.KernelIdeal.StageA.X4 m c := h4
  have e5 : Cert.ReferenceIdeal.Point.Y5 (launchContents m' c) = Cert.KernelIdeal.StageA.X5 m c := h5
  have e6 : Cert.ReferenceIdeal.Point.Y6 (launchContents m' c) = Cert.KernelIdeal.StageA.X6 m c := h6
  have e7 : Cert.ReferenceIdeal.Point.Y7 (launchContents m' c) = Cert.KernelIdeal.StageA.X7 m c := h7
  have r := Cert.ReferenceIdeal.Point.corrected (launchContents m' c) (e0 ▸ r0) (e1 ▸ r1) (e4 ▸ r4) (e5 ▸ r5) (e6 ▸ r6)
  rw [e0, e1, e4, e5, e6, e7] at r
  exact r.trans k.symm

open Cert.KernelIdeal.Gen in
/-- The cluster scores: what the second launch leaves is what the reference computes. -/
theorem clustersEq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD) (ha : Agree m m' c) :
    Cert.ReferenceIdeal.Point.scoresT (launchContents m' c) = W6 m g c (Proc.devRef .tc Cert.KernelIdeal.main_v13) := by
  have r := Cert.ReferenceIdeal.Point.clusters_of (launchContents m' c) (Cert.KernelIdeal.StageA.X0 m c) (Cert.KernelIdeal.StageA.X1 m c) ha.1 ha.2.1
  have k1 : W6 m g c (Proc.devRef .tc Cert.KernelIdeal.main_v13) = W3 m g c (Proc.devRef .tc Cert.KernelIdeal.main_v13) :=
    (W6_of m g c Cert.KernelIdeal.main_v13 (by decide)).trans
      ((W5_of m g c Cert.KernelIdeal.main_v13 (by decide)).trans (W4_of m g c Cert.KernelIdeal.main_v13 (by decide)))
  have k2 := Cert.KernelIdeal.StageB.clusters m g c
    (fun b => Cert.ReferenceIdeal.Point.order (Cert.KernelIdeal.StageA.sim (Cert.KernelIdeal.StageA.X0 m c) (Cert.KernelIdeal.StageA.X1 m c) b))
    (fun b => Cert.ReferenceIdeal.Point.order_bijective _) (fun b => Cert.ReferenceIdeal.Point.order_monotone _)
  exact r.trans (k1.trans ((W3_arr m g c 1).trans k2)).symm

open Cert.KernelIdeal.Gen in
/-- The loss: what the third launch leaves is what the reference computes. -/
theorem lossEq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hp : Cert.Pre_KernelIdeal_finite (hPre_finite := Cert.Pre_finite.Gen.facts) m) (c : Dev Cert.KernelIdeal.nD) (ha : Agree m m' c) :
    Cert.ReferenceIdeal.Point.lossT (launchContents m' c) = W6 m g c (Proc.devRef .tc Cert.KernelIdeal.main_v21) := by
  have hC := correctedEq m g m' hp c ha
  obtain ⟨h0, h1, h2, h3, h4, h5, h6, h7, h8⟩ := ha
  have e0 : Cert.ReferenceIdeal.Point.A0 (launchContents m' c) = Cert.KernelIdeal.StageA.X0 m c := h0
  have e2 : (launchContents m' c (Proc.devRef .tc Cert.ReferenceIdeal.main_arg2) : FVec Ideal Cert.KernelIdeal.S_ .f32)
      = m ((c.tc : Thread Cert.KernelIdeal.nD Cert.KernelIdeal.τ).loc Cert.KernelIdeal.main_arg2) := h2
  have e3 : (launchContents m' c (Proc.devRef .tc Cert.ReferenceIdeal.main_arg3) : FVec Ideal Cert.KernelIdeal.S_ .f32)
      = m ((c.tc : Thread Cert.KernelIdeal.nD Cert.KernelIdeal.τ).loc Cert.KernelIdeal.main_arg3) := h3
  have k := Cert.KernelIdeal.StageC.lossed m g c (Cert.ReferenceIdeal.Point.C94 (launchContents m' c)) hC.symm
    (fun b k => Cert.KernelIdeal.StageC.cosRow (Cert.KernelIdeal.StageA.X0 m c) (Cert.ReferenceIdeal.Point.C94 (launchContents m' c)) b (Cert.ReferenceIdeal.Point.neg k))
    (fun b v => Cert.ReferenceIdeal.Point.count_neg _ v)
    (fun b => Cert.ReferenceIdeal.Point.orderD fun k => Cert.KernelIdeal.StageC.cosRow (Cert.KernelIdeal.StageA.X0 m c)
      (Cert.ReferenceIdeal.Point.C94 (launchContents m' c)) b (Cert.ReferenceIdeal.Point.neg k))
    (fun b => Cert.ReferenceIdeal.Point.orderD_bijective _) (fun b => Cert.ReferenceIdeal.Point.orderD_antitone _)
  have r := Cert.ReferenceIdeal.Point.lossed (launchContents m' c)
  rw [e0, e2, e3] at r
  exact r.trans k.symm

open Cert.KernelIdeal.Gen in
/-- All three results agree. -/
theorem equal : Cert.algebraic_KernelIdeal_ReferenceIdeal_pre_finite := by
  intro m g m' g' hp ha
  refine ⟨fun c => W6 m g c (Proc.devRef .tc Cert.KernelIdeal.main_v21), fun c => W6 m g c (Proc.devRef .tc Cert.KernelIdeal.main_v12_0),
    fun c => W6 m g c (Proc.devRef .tc Cert.KernelIdeal.main_v13), ?_, ?_⟩
  · refine (θ_run Cert.KernelIdeal.defs _ _).mono (fun r h c => ?_) (run_contents m g)
    have k := h c
    exact ⟨k _ (mem_uc Cert.KernelIdeal.main_v21 (by decide)),
      k _ (mem_uc Cert.KernelIdeal.main_v12_0 (by decide)),
      k _ (mem_uc Cert.KernelIdeal.main_v13 (by decide)),
      (k _ (mem_uc Cert.KernelIdeal.main_arg0 (by decide))).trans (W6_main_arg0 m g c),
      (k _ (mem_uc Cert.KernelIdeal.main_arg1 (by decide))).trans (W6_main_arg1 m g c),
      (k _ (mem_uc Cert.KernelIdeal.main_arg2 (by decide))).trans (W6_main_arg2 m g c),
      (k _ (mem_uc Cert.KernelIdeal.main_arg3 (by decide))).trans (W6_main_arg3 m g c),
      (k _ (mem_uc Cert.KernelIdeal.main_arg4 (by decide))).trans (W6_main_arg4 m g c),
      (k _ (mem_uc Cert.KernelIdeal.main_arg5 (by decide))).trans (W6_main_arg5 m g c),
      (k _ (mem_uc Cert.KernelIdeal.main_arg6 (by decide))).trans (W6_main_arg6 m g c),
      (k _ (mem_uc Cert.KernelIdeal.main_arg7 (by decide))).trans (W6_main_arg7 m g c),
      (k _ (mem_uc Cert.KernelIdeal.main_arg8 (by decide))).trans (W6_main_arg8 m g c)⟩
  · refine (θ_run Cert.ReferenceIdeal.defs _ _).mono (fun r h c => ?_) (Cert.ReferenceIdeal.Value.run (F := Ideal) m' g')
    exact ⟨(h c).1.trans (lossEq m g m' hp c (ha c)), (h c).2.1.trans (correctedEq m g m' hp c (ha c)),
      (h c).2.2.1.trans (clustersEq m g m' c (ha c)), (h c).2.2.2⟩

theorem claim : Cert.Claim :=
  ⟨Cert.Kernel.Gen.facts, Cert.KernelIdeal.Gen.facts, Cert.ReferenceIdeal.Gen.facts, Cert.Pre_finite.Gen.facts,
    frameKernel, frameIdeal, frameIdealPre, frameRef, frameRefPre, preserved, equal⟩

end Cert.Proof

end
